-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v44)) (v1 : (c : Dev Cert.KernelIdeal.nD) → Buf (Elt Ideal) ((c.tc : Thread Cert.KernelIdeal.nD Cert.KernelIdeal.τ).loc Cert.KernelIdeal.main_v45)) (v2 : (c : Dev Cert.KernelIdeal.nD) → Buf (Elt Ideal) ((c.tc : Thread Cert.KernelIdeal.nD Cert.KernelIdeal.τ).loc Cert.KernelIdeal.main_v46)) (v3 : (c : Dev Cert.KernelIdeal.nD) → Buf (Elt Ideal) ((c.tc : Thread Cert.KernelIdeal.nD Cert.KernelIdeal.τ).loc Cert.KernelIdeal.main_v47)) (v4 : (c : Dev Cert.KernelIdeal.nD) → Buf (Elt Ideal) ((c.tc : Thread Cert.KernelIdeal.nD Cert.KernelIdeal.τ).loc Cert.KernelIdeal.main_v48)) (v5 : (c : Dev Cert.KernelIdeal.nD) → Buf (Elt Ideal) ((c.tc : Thread Cert.KernelIdeal.nD Cert.KernelIdeal.τ).loc Cert.KernelIdeal.main_v50)) (v6 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_v45) = v1 c
          ∧ r.2.mem ((c.tc : Thread Cert.KernelIdeal.nD Cert.KernelIdeal.τ).loc Cert.KernelIdeal.main_v46) = v2 c
          ∧ r.2.mem ((c.tc : Thread Cert.KernelIdeal.nD Cert.KernelIdeal.τ).loc Cert.KernelIdeal.main_v47) = v3 c
          ∧ r.2.mem ((c.tc : Thread Cert.KernelIdeal.nD Cert.KernelIdeal.τ).loc Cert.KernelIdeal.main_v48) = v4 c
          ∧ r.2.mem ((c.tc : Thread Cert.KernelIdeal.nD Cert.KernelIdeal.τ).loc Cert.KernelIdeal.main_v50) = v5 c
          ∧ r.2.mem ((c.tc : Thread Cert.KernelIdeal.nD Cert.KernelIdeal.τ).loc Cert.KernelIdeal.main_v52) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v164) = v0 c
          ∧ r.2.mem ((c.tc : Thread Cert.ReferenceIdeal.nD Cert.ReferenceIdeal.τ).loc Cert.ReferenceIdeal.main_v165) = v1 c
          ∧ r.2.mem ((c.tc : Thread Cert.ReferenceIdeal.nD Cert.ReferenceIdeal.τ).loc Cert.ReferenceIdeal.main_v166) = v2 c
          ∧ r.2.mem ((c.tc : Thread Cert.ReferenceIdeal.nD Cert.ReferenceIdeal.τ).loc Cert.ReferenceIdeal.main_v167) = v3 c
          ∧ r.2.mem ((c.tc : Thread Cert.ReferenceIdeal.nD Cert.ReferenceIdeal.τ).loc Cert.ReferenceIdeal.main_v168) = v4 c
          ∧ r.2.mem ((c.tc : Thread Cert.ReferenceIdeal.nD Cert.ReferenceIdeal.τ).loc Cert.ReferenceIdeal.main_v169) = v5 c
          ∧ r.2.mem ((c.tc : Thread Cert.ReferenceIdeal.nD Cert.ReferenceIdeal.τ).loc Cert.ReferenceIdeal.main_v170) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x1x4096 : Shape := ⟨3, ![128, 1, 4096]⟩
abbrev S128x1x1x256 : Shape := ⟨4, ![128, 1, 1, 256]⟩
abbrev S128x1920x1x128 : Shape := ⟨4, ![128, 1920, 1, 128]⟩
abbrev S128x60x1x256 : Shape := ⟨4, ![128, 60, 1, 256]⟩
abbrev S128x1920x1x8 : Shape := ⟨4, ![128, 1920, 1, 8]⟩
abbrev S128x128x1x256 : Shape := ⟨4, ![128, 128, 1, 256]⟩
abbrev S128x128x256 : Shape := ⟨3, ![128, 128, 256]⟩
abbrev S128x256 : Shape := ⟨2, ![128, 256]⟩
abbrev S256x128 : Shape := ⟨2, ![256, 128]⟩
abbrev S_ : Shape := ⟨0, ![]⟩
abbrev S128x128 : Shape := ⟨2, ![128, 128]⟩
abbrev S8x128 : Shape := ⟨2, ![8, 128]⟩
abbrev S128x1x256 : Shape := ⟨3, ![128, 1, 256]⟩
abbrev S128x32x256 : Shape := ⟨3, ![128, 32, 256]⟩
abbrev S8x32x128 : Shape := ⟨3, ![8, 32, 128]⟩
abbrev S8x1x128 : Shape := ⟨3, ![8, 1, 128]⟩
abbrev S128x16x256 : Shape := ⟨3, ![128, 16, 256]⟩
abbrev S128x1920x128 : Shape := ⟨3, ![128, 1920, 128]⟩
abbrev S15360x128 : Shape := ⟨2, ![15360, 128]⟩
abbrev S128x1920x8 : Shape := ⟨3, ![128, 1920, 8]⟩
abbrev S128x8x1920 : Shape := ⟨3, ![128, 8, 1920]⟩
abbrev S256x256 : Shape := ⟨2, ![256, 256]⟩
abbrev S4x16x256 : Shape := ⟨3, ![4, 16, 256]⟩
abbrev S4x1920x128 : Shape := ⟨3, ![4, 1920, 128]⟩
abbrev S480x128 : Shape := ⟨2, ![480, 128]⟩
abbrev S4x8x1920 : Shape := ⟨3, ![4, 8, 1920]⟩
abbrev S4x128x256 : Shape := ⟨3, ![4, 128, 256]⟩
abbrev S4x1x256 : Shape := ⟨3, ![4, 1, 256]⟩
abbrev S240x256 : Shape := ⟨2, ![240, 256]⟩
abbrev S64x256 : Shape := ⟨2, ![64, 256]⟩
abbrev S240x128 : Shape := ⟨2, ![240, 128]⟩
abbrev S1x8x1920 : Shape := ⟨3, ![1, 8, 1920]⟩
abbrev S8x1920 : Shape := ⟨2, ![8, 1920]⟩
abbrev S1x16x256 : Shape := ⟨3, ![1, 16, 256]⟩
abbrev S16x256 : Shape := ⟨2, ![16, 256]⟩
abbrev S1x256x128 : Shape := ⟨3, ![1, 256, 128]⟩
abbrev S64x128 : Shape := ⟨2, ![64, 128]⟩
abbrev S1x256 : Shape := ⟨2, ![1, 256]⟩
abbrev S32x256 : Shape := ⟨2, ![32, 256]⟩
abbrev S1x128x128 : Shape := ⟨3, ![1, 128, 128]⟩
abbrev S32x128 : Shape := ⟨2, ![32, 128]⟩
abbrev S16x128 : Shape := ⟨2, ![16, 128]⟩
abbrev S1x128x256 : Shape := ⟨3, ![1, 128, 256]⟩
abbrev S1x1x256 : Shape := ⟨3, ![1, 1, 256]⟩
abbrev S16 : Shape := ⟨1, ![16]⟩
abbrev S16x1 : Shape := ⟨2, ![16, 1]⟩
abbrev S1x128 : Shape := ⟨2, ![1, 128]⟩
abbrev S16x128x1 : Shape := ⟨3, ![16, 128, 1]⟩
abbrev S128x1x1x128 : Shape := ⟨4, ![128, 1, 1, 128]⟩
abbrev S128x8 : Shape := ⟨2, ![128, 8]⟩
abbrev S128x1x1x8 : Shape := ⟨4, ![128, 1, 1, 8]⟩

abbrev nBuf : Space → Nat
  | .hbm => 89
  | .vmem => 41
  | .smem => 0
  | _ => 0

abbrev bufTy : (tb : Table) → Fin (tcTables nBuf tb) → BufTy
  | .hbm, ⟨0, _⟩ => ⟨S128x1x4096, .bf16⟩
  | .hbm, ⟨1, _⟩ => ⟨S128x1x1x256, .bf16⟩
  | .hbm, ⟨2, _⟩ => ⟨S128x1x1x256, .bf16⟩
  | .hbm, ⟨3, _⟩ => ⟨S128x1920x1x128, .i8⟩
  | .hbm, ⟨4, _⟩ => ⟨S128x60x1x256, .f32⟩
  | .hbm, ⟨5, _⟩ => ⟨S128x60x1x256, .f32⟩
  | .hbm, ⟨6, _⟩ => ⟨S128x1920x1x128, .i8⟩
  | .hbm, ⟨7, _⟩ => ⟨S128x1920x1x8, .f32⟩
  | .hbm, ⟨8, _⟩ => ⟨S128x1920x1x8, .f32⟩
  | .hbm, ⟨9, _⟩ => ⟨S128x128x1x256, .bf16⟩
  | .hbm, ⟨10, _⟩ => ⟨S128x128x1x256, .bf16⟩
  | .hbm, ⟨11, _⟩ => ⟨S128x128x256, .bf16⟩
  | .hbm, ⟨12, _⟩ => ⟨S128x128x256, .bf16⟩
  | .hbm, ⟨13, _⟩ => ⟨S128x256, .bf16⟩
  | .hbm, ⟨14, _⟩ => ⟨S128x256, .bf16⟩
  | .hbm, ⟨15, _⟩ => ⟨S256x128, .i32⟩
  | .hbm, ⟨16, _⟩ => ⟨S256x128, .i32⟩
  | .hbm, ⟨17, _⟩ => ⟨S_, .i32⟩
  | .hbm, ⟨18, _⟩ => ⟨S256x128, .i32⟩
  | .hbm, ⟨19, _⟩ => ⟨S256x128, .i32⟩
  | .hbm, ⟨20, _⟩ => ⟨S256x128, .i1⟩
  | .hbm, ⟨21, _⟩ => ⟨S_, .i32⟩
  | .hbm, ⟨22, _⟩ => ⟨S256x128, .i32⟩
  | .hbm, ⟨23, _⟩ => ⟨S256x128, .i32⟩
  | .hbm, ⟨24, _⟩ => ⟨S_, .i32⟩
  | .hbm, ⟨25, _⟩ => ⟨S256x128, .i32⟩
  | .hbm, ⟨26, _⟩ => ⟨S256x128, .i32⟩
  | .hbm, ⟨27, _⟩ => ⟨S256x128, .i1⟩
  | .hbm, ⟨28, _⟩ => ⟨S_, .f32⟩
  | .hbm, ⟨29, _⟩ => ⟨S_, .f32⟩
  | .hbm, ⟨30, _⟩ => ⟨S256x128, .f32⟩
  | .hbm, ⟨31, _⟩ => ⟨S256x128, .f32⟩
  | .hbm, ⟨32, _⟩ => ⟨S256x128, .f32⟩
  | .hbm, ⟨33, _⟩ => ⟨S_, .f32⟩
  | .hbm, ⟨34, _⟩ => ⟨S256x128, .f32⟩
  | .hbm, ⟨35, _⟩ => ⟨S256x128, .f32⟩
  | .hbm, ⟨36, _⟩ => ⟨S256x128, .bf16⟩
  | .hbm, ⟨37, _⟩ => ⟨S128x128, .i8⟩
  | .hbm, ⟨38, _⟩ => ⟨S128x256, .f32⟩
  | .hbm, ⟨39, _⟩ => ⟨S128x256, .f32⟩
  | .hbm, ⟨40, _⟩ => ⟨S128x128, .i8⟩
  | .hbm, ⟨41, _⟩ => ⟨S8x128, .f32⟩
  | .hbm, ⟨42, _⟩ => ⟨S8x128, .f32⟩
  | .hbm, ⟨43, _⟩ => ⟨S128x1x256, .bf16⟩
  | .hbm, ⟨44, _⟩ => ⟨S128x1x256, .bf16⟩
  | .hbm, ⟨45, _⟩ => ⟨S128x16x256, .bf16⟩
  | .hbm, ⟨46, _⟩ => ⟨S128x1920x128, .i8⟩
  | .hbm, ⟨47, _⟩ => ⟨S15360x128, .f32⟩
  | .hbm, ⟨48, _⟩ => ⟨S15360x128, .f32⟩
  | .hbm, ⟨49, _⟩ => ⟨S128x1920x128, .i8⟩
  | .hbm, ⟨50, _⟩ => ⟨S128x1920x8, .f32⟩
  | .hbm, ⟨51, _⟩ => ⟨S128x8x1920, .f32⟩
  | .hbm, ⟨52, _⟩ => ⟨S128x1920x8, .f32⟩
  | .hbm, ⟨53, _⟩ => ⟨S128x8x1920, .f32⟩
  | .hbm, ⟨54, _⟩ => ⟨S256x256, .i32⟩
  | .hbm, ⟨55, _⟩ => ⟨S256x256, .i32⟩
  | .hbm, ⟨56, _⟩ => ⟨S_, .i32⟩
  | .hbm, ⟨57, _⟩ => ⟨S256x256, .i32⟩
  | .hbm, ⟨58, _⟩ => ⟨S256x256, .i1⟩
  | .hbm, ⟨59, _⟩ => ⟨S_, .i32⟩
  | .hbm, ⟨60, _⟩ => ⟨S256x256, .i32⟩
  | .hbm, ⟨61, _⟩ => ⟨S256x256, .i32⟩
  | .hbm, ⟨62, _⟩ => ⟨S_, .i32⟩
  | .hbm, ⟨63, _⟩ => ⟨S256x256, .i32⟩
  | .hbm, ⟨64, _⟩ => ⟨S256x256, .i32⟩
  | .hbm, ⟨65, _⟩ => ⟨S_, .i32⟩
  | .hbm, ⟨66, _⟩ => ⟨S256x256, .i32⟩
  | .hbm, ⟨67, _⟩ => ⟨S256x256, .i32⟩
  | .hbm, ⟨68, _⟩ => ⟨S_, .i32⟩
  | .hbm, ⟨69, _⟩ => ⟨S256x256, .i32⟩
  | .hbm, ⟨70, _⟩ => ⟨S256x256, .i32⟩
  | .hbm, ⟨71, _⟩ => ⟨S256x256, .i32⟩
  | .hbm, ⟨72, _⟩ => ⟨S256x256, .i1⟩
  | .hbm, ⟨73, _⟩ => ⟨S_, .f32⟩
  | .hbm, ⟨74, _⟩ => ⟨S_, .f32⟩
  | .hbm, ⟨75, _⟩ => ⟨S256x256, .f32⟩
  | .hbm, ⟨76, _⟩ => ⟨S256x256, .f32⟩
  | .hbm, ⟨77, _⟩ => ⟨S256x256, .f32⟩
  | .hbm, ⟨78, _⟩ => ⟨S256x256, .bf16⟩
  | .hbm, ⟨79, _⟩ => ⟨S128x16x256, .bf16⟩
  | .hbm, ⟨80, _⟩ => ⟨S128x1x4096, .bf16⟩
  | .hbm, ⟨81, _⟩ => ⟨S128x1x1x128, .i8⟩
  | .hbm, ⟨82, _⟩ => ⟨S128x1x1x256, .f32⟩
  | .hbm, ⟨83, _⟩ => ⟨S128x1x1x256, .f32⟩
  | .hbm, ⟨84, _⟩ => ⟨S128x1x1x128, .i8⟩
  | .hbm, ⟨85, _⟩ => ⟨S128x8, .f32⟩
  | .hbm, ⟨86, _⟩ => ⟨S128x1x1x8, .f32⟩
  | .hbm, ⟨87, _⟩ => ⟨S128x8, .f32⟩
  | .hbm, ⟨88, _⟩ => ⟨S128x1x1x8, .f32⟩
  | .local _ .vmem, ⟨0, _⟩ => ⟨S128x32x256, .bf16⟩
  | .local _ .vmem, ⟨1, _⟩ => ⟨S128x256, .bf16⟩
  | .local _ .vmem, ⟨2, _⟩ => ⟨S128x256, .bf16⟩
  | .local _ .vmem, ⟨3, _⟩ => ⟨S256x128, .bf16⟩
  | .local _ .vmem, ⟨4, _⟩ => ⟨S128x128, .i8⟩
  | .local _ .vmem, ⟨5, _⟩ => ⟨S128x256, .f32⟩
  | .local _ .vmem, ⟨6, _⟩ => ⟨S128x256, .f32⟩
  | .local _ .vmem, ⟨7, _⟩ => ⟨S128x128, .i8⟩
  | .local _ .vmem, ⟨8, _⟩ => ⟨S8x128, .f32⟩
  | .local _ .vmem, ⟨9, _⟩ => ⟨S8x128, .f32⟩
  | .local _ .vmem, ⟨10, _⟩ => ⟨S128x1x256, .bf16⟩
  | .local _ .vmem, ⟨11, _⟩ => ⟨S128x1x256, .bf16⟩
  | .local _ .vmem, ⟨12, _⟩ => ⟨S4x16x256, .bf16⟩
  | .local _ .vmem, ⟨13, _⟩ => ⟨S4x16x256, .bf16⟩
  | .local _ .vmem, ⟨14, _⟩ => ⟨S4x1920x128, .i8⟩
  | .local _ .vmem, ⟨15, _⟩ => ⟨S4x1920x128, .i8⟩
  | .local _ .vmem, ⟨16, _⟩ => ⟨S480x128, .f32⟩
  | .local _ .vmem, ⟨17, _⟩ => ⟨S480x128, .f32⟩
  | .local _ .vmem, ⟨18, _⟩ => ⟨S480x128, .f32⟩
  | .local _ .vmem, ⟨19, _⟩ => ⟨S480x128, .f32⟩
  | .local _ .vmem, ⟨20, _⟩ => ⟨S4x1920x128, .i8⟩
  | .local _ .vmem, ⟨21, _⟩ => ⟨S4x1920x128, .i8⟩
  | .local _ .vmem, ⟨22, _⟩ => ⟨S4x8x1920, .f32⟩
  | .local _ .vmem, ⟨23, _⟩ => ⟨S4x8x1920, .f32⟩
  | .local _ .vmem, ⟨24, _⟩ => ⟨S4x8x1920, .f32⟩
  | .local _ .vmem, ⟨25, _⟩ => ⟨S4x8x1920, .f32⟩
  | .local _ .vmem, ⟨26, _⟩ => ⟨S4x128x256, .bf16⟩
  | .local _ .vmem, ⟨27, _⟩ => ⟨S4x128x256, .bf16⟩
  | .local _ .vmem, ⟨28, _⟩ => ⟨S4x128x256, .bf16⟩
  | .local _ .vmem, ⟨29, _⟩ => ⟨S4x128x256, .bf16⟩
  | .local _ .vmem, ⟨30, _⟩ => ⟨S4x1x256, .bf16⟩
  | .local _ .vmem, ⟨31, _⟩ => ⟨S4x1x256, .bf16⟩
  | .local _ .vmem, ⟨32, _⟩ => ⟨S4x1x256, .bf16⟩
  | .local _ .vmem, ⟨33, _⟩ => ⟨S4x1x256, .bf16⟩
  | .local _ .vmem, ⟨34, _⟩ => ⟨S256x256, .bf16⟩
  | .local _ .vmem, ⟨35, _⟩ => ⟨S4x16x256, .bf16⟩
  | .local _ .vmem, ⟨36, _⟩ => ⟨S4x16x256, .bf16⟩
  | .local _ .vmem, ⟨37, _⟩ => ⟨S240x256, .f32⟩
  | .local _ .vmem, ⟨38, _⟩ => ⟨S240x256, .f32⟩
  | .local _ .vmem, ⟨39, _⟩ => ⟨S4x8x1920, .f32⟩
  | .local _ .vmem, ⟨40, _⟩ => ⟨S4x8x1920, .f32⟩
  | _, _ => ⟨S128x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c_0 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_cst_3 : Ref sig .tc := ⟨.hbm, 33, rfl⟩
abbrev main_call1_v0 : Ref sig .tc := ⟨.hbm, 34, rfl⟩
abbrev main_v15 : Ref sig .tc := ⟨.hbm, 35, rfl⟩
abbrev main_v16 : Ref sig .tc := ⟨.hbm, 36, rfl⟩
abbrev main_v17_0 : Ref sig .tc := ⟨.hbm, 37, rfl⟩
abbrev main_v17_1 : Ref sig .tc := ⟨.hbm, 38, rfl⟩
abbrev main_v17_2 : Ref sig .tc := ⟨.hbm, 39, rfl⟩
abbrev main_v17_3 : Ref sig .tc := ⟨.hbm, 40, rfl⟩
abbrev main_v17_4 : Ref sig .tc := ⟨.hbm, 41, rfl⟩
abbrev main_v17_5 : Ref sig .tc := ⟨.hbm, 42, rfl⟩
abbrev main_v17_6 : Ref sig .tc := ⟨.hbm, 43, rfl⟩
abbrev main_v17_7 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_c_4 : Ref sig .tc := ⟨.hbm, 56, rfl⟩
abbrev main_v29 : Ref sig .tc := ⟨.hbm, 57, rfl⟩
abbrev main_v30 : Ref sig .tc := ⟨.hbm, 58, rfl⟩
abbrev main_c_5 : Ref sig .tc := ⟨.hbm, 59, rfl⟩
abbrev main_v31 : Ref sig .tc := ⟨.hbm, 60, rfl⟩
abbrev main_v32 : Ref sig .tc := ⟨.hbm, 61, rfl⟩
abbrev main_c_6 : Ref sig .tc := ⟨.hbm, 62, rfl⟩
abbrev main_v33 : Ref sig .tc := ⟨.hbm, 63, rfl⟩
abbrev main_v34 : Ref sig .tc := ⟨.hbm, 64, rfl⟩
abbrev main_c_7 : Ref sig .tc := ⟨.hbm, 65, rfl⟩
abbrev main_v35 : Ref sig .tc := ⟨.hbm, 66, rfl⟩
abbrev main_v36 : Ref sig .tc := ⟨.hbm, 67, rfl⟩
abbrev main_c_8 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_cst_9 : Ref sig .tc := ⟨.hbm, 73, rfl⟩
abbrev main_cst_10 : Ref sig .tc := ⟨.hbm, 74, rfl⟩
abbrev main_call3_v0 : Ref sig .tc := ⟨.hbm, 75, rfl⟩
abbrev main_call3_v1 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg6_1 : Ref sig .tc := ⟨.vmem, 25, rfl⟩
abbrev cc1_stg7_0 : Ref sig .tc := ⟨.vmem, 26, rfl⟩
abbrev cc1_stg7_1 : Ref sig .tc := ⟨.vmem, 27, rfl⟩
abbrev cc1_stg8_0 : Ref sig .tc := ⟨.vmem, 28, rfl⟩
abbrev cc1_stg8_1 : Ref sig .tc := ⟨.vmem, 29, rfl⟩
abbrev cc1_stg9_0 : Ref sig .tc := ⟨.vmem, 30, rfl⟩
abbrev cc1_stg9_1 : Ref sig .tc := ⟨.vmem, 31, rfl⟩
abbrev cc1_stg10_0 : Ref sig .tc := ⟨.vmem, 32, rfl⟩
abbrev cc1_stg10_1 : Ref sig .tc := ⟨.vmem, 33, rfl⟩
abbrev cc1_stg11_0 : Ref sig .tc := ⟨.vmem, 34, rfl⟩
abbrev cc1_stg12_0 : Ref sig .tc := ⟨.vmem, 35, rfl⟩
abbrev cc1_stg12_1 : Ref sig .tc := ⟨.vmem, 36, rfl⟩
abbrev cc1_scratch0 : Ref sig .tc := ⟨.vmem, 37, rfl⟩
abbrev cc1_scratch1 : Ref sig .tc := ⟨.vmem, 38, rfl⟩
abbrev cc1_scratch2 : Ref sig .tc := ⟨.vmem, 39, rfl⟩
abbrev cc1_scratch3 : Ref sig .tc := ⟨.vmem, 40, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem6_1 : DmaSem sig := 25
abbrev cc1_sem7_0 : DmaSem sig := 26
abbrev cc1_sem7_1 : DmaSem sig := 27
abbrev cc1_sem8_0 : DmaSem sig := 28
abbrev cc1_sem8_1 : DmaSem sig := 29
abbrev cc1_sem9_0 : DmaSem sig := 30
abbrev cc1_sem9_1 : DmaSem sig := 31
abbrev cc1_sem10_0 : DmaSem sig := 32
abbrev cc1_sem10_1 : DmaSem sig := 33
abbrev cc1_sem11_0 : DmaSem sig := 34
abbrev cc1_sem12_0 : DmaSem sig := 35
abbrev cc1_sem12_1 : DmaSem sig := 36

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c3_i32 : BitVec 32 := 3#32
  let c0_i32_0 : BitVec 32 := 0#32
  let c0_i32_1 : BitVec 32 := 0#32
  ![c0_i32.toNat, c3_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S128x32x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x1x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x1x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S4x16x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4x1920x128 .i8 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S480x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S480x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4x1920x128 .i8 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S4x8x1920 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S4x8x1920 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S4x128x256 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S4x128x256 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S4x1x256 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S4x1x256 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 1 → Memref sig .tc .vmem S256x256 .bf16 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 2 → Memref sig .tc .vmem S4x16x256 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]
-- ==== ReferenceIdeal.lean ====
abbrev S128x1x4096 : Shape := ⟨3, ![128, 1, 4096]⟩
abbrev S128x1x1x256 : Shape := ⟨4, ![128, 1, 1, 256]⟩
abbrev S128x1920x1x128 : Shape := ⟨4, ![128, 1920, 1, 128]⟩
abbrev S128x60x1x256 : Shape := ⟨4, ![128, 60, 1, 256]⟩
abbrev S128x1920x1x8 : Shape := ⟨4, ![128, 1920, 1, 8]⟩
abbrev S128x128x1x256 : Shape := ⟨4, ![128, 128, 1, 256]⟩
abbrev S128x16x256 : Shape := ⟨3, ![128, 16, 256]⟩
abbrev S128x31x1x256 : Shape := ⟨4, ![128, 31, 1, 256]⟩
abbrev S128x32x1x256 : Shape := ⟨4, ![128, 32, 1, 256]⟩
abbrev S128x32x256 : Shape := ⟨3, ![128, 32, 256]⟩
abbrev S_ : Shape := ⟨0, ![]⟩
abbrev S128x256 : Shape := ⟨2, ![128, 256]⟩
abbrev S128x1x256 : Shape := ⟨3, ![128, 1, 256]⟩
abbrev S128x128 : Shape := ⟨2, ![128, 128]⟩
abbrev S128x128x1 : Shape := ⟨3, ![128, 128, 1]⟩
abbrev S128x128x2 : Shape := ⟨3, ![128, 128, 2]⟩
abbrev S128x8x32 : Shape := ⟨3, ![128, 8, 32]⟩
abbrev S128x8 : Shape := ⟨2, ![128, 8]⟩
abbrev S128x8x1 : Shape := ⟨3, ![128, 8, 1]⟩
abbrev S128x1920x1x128x1 : Shape := ⟨5, ![128, 1920, 1, 128, 1]⟩
abbrev S128x1920x1x128x2 : Shape := ⟨5, ![128, 1920, 1, 128, 2]⟩
abbrev S128x1920x1x256 : Shape := ⟨4, ![128, 1920, 1, 256]⟩
abbrev S128x60x32x256 : Shape := ⟨4, ![128, 60, 32, 256]⟩
abbrev S128x1920x8x32 : Shape := ⟨4, ![128, 1920, 8, 32]⟩
abbrev S128x1920x8x1 : Shape := ⟨4, ![128, 1920, 8, 1]⟩
abbrev S128x1920x256 : Shape := ⟨3, ![128, 1920, 256]⟩
abbrev S128x128x256 : Shape := ⟨3, ![128, 128, 256]⟩
abbrev S128x2049x256 : Shape := ⟨3, ![128, 2049, 256]⟩
abbrev S128x16x2049 : Shape := ⟨3, ![128, 16, 2049]⟩
abbrev S128x16 : Shape := ⟨2, ![128, 16]⟩
abbrev S128x16x1 : Shape := ⟨3, ![128, 16, 1]⟩
abbrev S128x1x1x128 : Shape := ⟨4, ![128, 1, 1, 128]⟩
abbrev S128x1x1x8 : Shape := ⟨4, ![128, 1, 1, 8]⟩

abbrev nBuf : Space → Nat
  | .hbm => 224
  | .vmem => 0
  | .smem => 0
  | _ => 0

abbrev hbmTy0_0 (i : Nat) : BufTy := match i % 128 with
  | 0 => ⟨S128x1x4096, .bf16⟩
  | 1 => ⟨S128x1x1x256, .bf16⟩
  | 2 => ⟨S128x1x1x256, .bf16⟩
  | 3 => ⟨S128x1920x1x128, .i8⟩
  | 4 => ⟨S128x60x1x256, .f32⟩
  | 5 => ⟨S128x60x1x256, .f32⟩
  | 6 => ⟨S128x1920x1x128, .i8⟩
  | 7 => ⟨S128x1920x1x8, .f32⟩
  | 8 => ⟨S128x1920x1x8, .f32⟩
  | 9 => ⟨S128x128x1x256, .bf16⟩
  | 10 => ⟨S128x128x1x256, .bf16⟩
  | 11 => ⟨S128x16x256, .bf16⟩
  | 12 => ⟨S128x31x1x256, .bf16⟩
  | 13 => ⟨S128x32x1x256, .bf16⟩
  | 14 => ⟨S128x32x1x256, .f32⟩
  | 15 => ⟨S128x32x256, .f32⟩
  | 16 => ⟨S_, .f32⟩
  | 17 => ⟨S128x256, .f32⟩
  | 18 => ⟨S_, .f32⟩
  | 19 => ⟨S128x256, .f32⟩
  | 20 => ⟨S128x256, .f32⟩
  | 21 => ⟨S_, .f32⟩
  | 22 => ⟨S128x256, .f32⟩
  | 23 => ⟨S128x256, .i1⟩
  | 24 => ⟨S_, .f32⟩
  | 25 => ⟨S128x256, .f32⟩
  | 26 => ⟨S128x256, .f32⟩
  | 27 => ⟨S_, .f32⟩
  | 28 => ⟨S_, .f32⟩
  | 29 => ⟨S128x256, .f32⟩
  | 30 => ⟨S128x256, .f32⟩
  | 31 => ⟨S128x256, .bf16⟩
  | 32 => ⟨S128x256, .f32⟩
  | 33 => ⟨S128x256, .bf16⟩
  | 34 => ⟨S128x256, .f32⟩
  | 35 => ⟨S128x1x256, .f32⟩
  | 36 => ⟨S128x256, .f32⟩
  | 37 => ⟨S128x256, .f32⟩
  | 38 => ⟨S128x256, .f32⟩
  | 39 => ⟨S128x256, .f32⟩
  | 40 => ⟨S_, .i32⟩
  | 41 => ⟨S_, .i32⟩
  | 42 => ⟨S_, .f32⟩
  | 43 => ⟨S128x256, .f32⟩
  | 44 => ⟨S128x256, .f32⟩
  | 45 => ⟨S_, .f32⟩
  | 46 => ⟨S128x256, .f32⟩
  | 47 => ⟨S128x256, .f32⟩
  | 48 => ⟨S128x256, .i32⟩
  | 49 => ⟨S128x256, .i8⟩
  | 50 => ⟨S128x256, .i8⟩
  | 51 => ⟨S128x256, .i32⟩
  | 52 => ⟨S128x128, .i32⟩
  | 53 => ⟨S128x128, .i32⟩
  | 54 => ⟨S_, .i32⟩
  | 55 => ⟨S128x128, .i32⟩
  | 56 => ⟨S128x128, .i32⟩
  | 57 => ⟨S128x128, .i32⟩
  | 58 => ⟨S128x128, .i8⟩
  | 59 => ⟨S128x128, .i32⟩
  | 60 => ⟨S_, .i32⟩
  | 61 => ⟨S128x128, .i32⟩
  | 62 => ⟨S128x128, .i32⟩
  | 63 => ⟨S_, .i32⟩
  | 64 => ⟨S128x128, .i32⟩
  | 65 => ⟨S128x128, .i32⟩
  | 66 => ⟨S128x128x1, .i32⟩
  | 67 => ⟨S128x128x1, .i32⟩
  | 68 => ⟨S128x128x2, .i32⟩
  | 69 => ⟨S128x256, .i32⟩
  | 70 => ⟨S128x256, .f32⟩
  | 71 => ⟨S128x256, .bf16⟩
  | 72 => ⟨S128x256, .bf16⟩
  | 73 => ⟨S128x256, .bf16⟩
  | 74 => ⟨S128x256, .bf16⟩
  | 75 => ⟨S128x256, .bf16⟩
  | 76 => ⟨S128x1x1x256, .f32⟩
  | 77 => ⟨S128x8x32, .f32⟩
  | 78 => ⟨S_, .f32⟩
  | 79 => ⟨S128x8, .f32⟩
  | 80 => ⟨S_, .f32⟩
  | 81 => ⟨S128x8, .f32⟩
  | 82 => ⟨S128x8, .f32⟩
  | 83 => ⟨S_, .f32⟩
  | 84 => ⟨S128x8, .f32⟩
  | 85 => ⟨S128x8, .i1⟩
  | 86 => ⟨S_, .f32⟩
  | 87 => ⟨S128x8, .f32⟩
  | 88 => ⟨S128x8, .f32⟩
  | 89 => ⟨S_, .f32⟩
  | 90 => ⟨S_, .f32⟩
  | 91 => ⟨S128x8, .f32⟩
  | 92 => ⟨S128x8, .f32⟩
  | 93 => ⟨S128x8, .bf16⟩
  | 94 => ⟨S128x8, .f32⟩
  | 95 => ⟨S128x8, .bf16⟩
  | 96 => ⟨S128x8, .f32⟩
  | 97 => ⟨S128x8x1, .f32⟩
  | 98 => ⟨S128x8x1, .f32⟩
  | 99 => ⟨S128x8x32, .f32⟩
  | 100 => ⟨S128x8x32, .f32⟩
  | 101 => ⟨S128x8x32, .f32⟩
  | 102 => ⟨S128x8x32, .f32⟩
  | 103 => ⟨S128x8x32, .f32⟩
  | 104 => ⟨S_, .i32⟩
  | 105 => ⟨S_, .i32⟩
  | 106 => ⟨S_, .f32⟩
  | 107 => ⟨S128x8x32, .f32⟩
  | 108 => ⟨S128x8x32, .f32⟩
  | 109 => ⟨S_, .f32⟩
  | 110 => ⟨S128x8x32, .f32⟩
  | 111 => ⟨S128x8x32, .f32⟩
  | 112 => ⟨S128x8x32, .i32⟩
  | 113 => ⟨S128x8x32, .i8⟩
  | 114 => ⟨S128x256, .i8⟩
  | 115 => ⟨S128x256, .i8⟩
  | 116 => ⟨S128x256, .i32⟩
  | 117 => ⟨S128x128, .i32⟩
  | 118 => ⟨S128x128, .i32⟩
  | 119 => ⟨S_, .i32⟩
  | 120 => ⟨S128x128, .i32⟩
  | 121 => ⟨S128x128, .i32⟩
  | 122 => ⟨S128x128, .i32⟩
  | 123 => ⟨S128x128, .i8⟩
  | 124 => ⟨S128x128, .i32⟩
  | 125 => ⟨S_, .i32⟩
  | 126 => ⟨S128x128, .i32⟩
  | 127 => ⟨S128x128, .i32⟩
  | _ => ⟨S128x1x4096, .bf16⟩

abbrev hbmTy0_1 (i : Nat) : BufTy := match i % 128 with
  | 0 => ⟨S_, .i32⟩
  | 1 => ⟨S128x128, .i32⟩
  | 2 => ⟨S128x128, .i32⟩
  | 3 => ⟨S128x128x1, .i32⟩
  | 4 => ⟨S128x128x1, .i32⟩
  | 5 => ⟨S128x128x2, .i32⟩
  | 6 => ⟨S128x256, .i32⟩
  | 7 => ⟨S128x256, .f32⟩
  | 8 => ⟨S128x256, .bf16⟩
  | 9 => ⟨S128x8x32, .bf16⟩
  | 10 => ⟨S128x8, .bf16⟩
  | 11 => ⟨S128x8x1, .bf16⟩
  | 12 => ⟨S128x8x32, .bf16⟩
  | 13 => ⟨S128x8x32, .bf16⟩
  | 14 => ⟨S128x8, .bf16⟩
  | 15 => ⟨S128x8x1, .bf16⟩
  | 16 => ⟨S128x8x32, .bf16⟩
  | 17 => ⟨S128x8x32, .bf16⟩
  | 18 => ⟨S128x1920x1x128, .i32⟩
  | 19 => ⟨S_, .i32⟩
  | 20 => ⟨S128x1920x1x128, .i32⟩
  | 21 => ⟨S128x1920x1x128, .i32⟩
  | 22 => ⟨S_, .i32⟩
  | 23 => ⟨S128x1920x1x128, .i32⟩
  | 24 => ⟨S128x1920x1x128, .i32⟩
  | 25 => ⟨S128x1920x1x128x1, .i32⟩
  | 26 => ⟨S128x1920x1x128x1, .i32⟩
  | 27 => ⟨S128x1920x1x128x2, .i32⟩
  | 28 => ⟨S128x1920x1x256, .i32⟩
  | 29 => ⟨S128x1920x1x256, .f32⟩
  | 30 => ⟨S128x1920x1x256, .bf16⟩
  | 31 => ⟨S128x60x32x256, .bf16⟩
  | 32 => ⟨S128x60x1x256, .bf16⟩
  | 33 => ⟨S128x60x32x256, .bf16⟩
  | 34 => ⟨S128x60x32x256, .bf16⟩
  | 35 => ⟨S128x60x1x256, .bf16⟩
  | 36 => ⟨S128x60x32x256, .bf16⟩
  | 37 => ⟨S128x60x32x256, .bf16⟩
  | 38 => ⟨S128x1920x1x128, .i32⟩
  | 39 => ⟨S_, .i32⟩
  | 40 => ⟨S128x1920x1x128, .i32⟩
  | 41 => ⟨S128x1920x1x128, .i32⟩
  | 42 => ⟨S_, .i32⟩
  | 43 => ⟨S128x1920x1x128, .i32⟩
  | 44 => ⟨S128x1920x1x128, .i32⟩
  | 45 => ⟨S128x1920x1x128x1, .i32⟩
  | 46 => ⟨S128x1920x1x128x1, .i32⟩
  | 47 => ⟨S128x1920x1x128x2, .i32⟩
  | 48 => ⟨S128x1920x1x256, .i32⟩
  | 49 => ⟨S128x1920x1x256, .f32⟩
  | 50 => ⟨S128x1920x1x256, .bf16⟩
  | 51 => ⟨S128x1920x8x32, .bf16⟩
  | 52 => ⟨S128x1920x1x8, .bf16⟩
  | 53 => ⟨S128x1920x8x1, .bf16⟩
  | 54 => ⟨S128x1920x8x32, .bf16⟩
  | 55 => ⟨S128x1920x8x32, .bf16⟩
  | 56 => ⟨S128x1920x1x8, .bf16⟩
  | 57 => ⟨S128x1920x8x1, .bf16⟩
  | 58 => ⟨S128x1920x8x32, .bf16⟩
  | 59 => ⟨S128x1920x8x32, .bf16⟩
  | 60 => ⟨S128x1920x256, .bf16⟩
  | 61 => ⟨S128x128x256, .bf16⟩
  | 62 => ⟨S128x1x256, .bf16⟩
  | 63 => ⟨S128x2049x256, .bf16⟩
  | 64 => ⟨S128x1920x256, .bf16⟩
  | 65 => ⟨S128x128x256, .bf16⟩
  | 66 => ⟨S128x1x256, .bf16⟩
  | 67 => ⟨S128x2049x256, .bf16⟩
  | 68 => ⟨S128x16x2049, .f32⟩
  | 69 => ⟨S_, .f32⟩
  | 70 => ⟨S128x16x2049, .f32⟩
  | 71 => ⟨S128x16x2049, .f32⟩
  | 72 => ⟨S_, .f32⟩
  | 73 => ⟨S128x16, .f32⟩
  | 74 => ⟨S128x16x1, .f32⟩
  | 75 => ⟨S_, .f32⟩
  | 76 => ⟨S128x16x1, .f32⟩
  | 77 => ⟨S128x16x1, .f32⟩
  | 78 => ⟨S128x16x2049, .f32⟩
  | 79 => ⟨S128x16x2049, .f32⟩
  | 80 => ⟨S128x16x2049, .f32⟩
  | 81 => ⟨S128x2049x256, .f32⟩
  | 82 => ⟨S128x16x256, .f32⟩
  | 83 => ⟨S_, .f32⟩
  | 84 => ⟨S128x16, .f32⟩
  | 85 => ⟨S128x16x1, .f32⟩
  | 86 => ⟨S128x16x256, .f32⟩
  | 87 => ⟨S128x16x256, .f32⟩
  | 88 => ⟨S128x1x4096, .f32⟩
  | 89 => ⟨S128x1x4096, .bf16⟩
  | 90 => ⟨S128x1x1x128, .i8⟩
  | 91 => ⟨S128x1x1x256, .f32⟩
  | 92 => ⟨S128x1x1x256, .f32⟩
  | 93 => ⟨S128x1x1x128, .i8⟩
  | 94 => ⟨S128x1x1x8, .f32⟩
  | 95 => ⟨S128x1x1x8, .f32⟩
  | _ => ⟨S128x1x4096, .bf16⟩

abbrev hbmTy (i : Nat) : BufTy := match i / 128 with
  | 0 => hbmTy0_0 i
  | 1 => hbmTy0_1 i
  | _ => ⟨S128x1x4096, .bf16⟩

abbrev bufTy : (tb : Table) → Fin (tcTables nBuf tb) → BufTy
  | .hbm, ⟨i, _⟩ => hbmTy i
  | _, _ => ⟨S128x1x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c : Ref sig .tc := ⟨.hbm, 40, rfl⟩
abbrev main_c_4 : Ref sig .tc := ⟨.hbm, 41, rfl⟩
abbrev main_call2_v0 : Ref sig .tc := ⟨.hbm, 42, rfl⟩
abbrev main_call2_v1 : Ref sig .tc := ⟨.hbm, 43, rfl⟩
abbrev main_call2_v2 : Ref sig .tc := ⟨.hbm, 44, rfl⟩
abbrev main_call2_v3 : Ref sig .tc := ⟨.hbm, 45, rfl⟩
abbrev main_call2_v4 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_c_5 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_c_6 : Ref sig .tc := ⟨.hbm, 60, rfl⟩
abbrev main_v34 : Ref sig .tc := ⟨.hbm, 61, rfl⟩
abbrev main_v35 : Ref sig .tc := ⟨.hbm, 62, rfl⟩
abbrev main_c_7 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_8 : Ref sig .tc := ⟨.hbm, 78, rfl⟩
abbrev main_v50 : Ref sig .tc := ⟨.hbm, 79, rfl⟩
abbrev main_cst_9 : Ref sig .tc := ⟨.hbm, 80, rfl⟩
abbrev main_v51 : Ref sig .tc := ⟨.hbm, 81, rfl⟩
abbrev main_v52 : Ref sig .tc := ⟨.hbm, 82, rfl⟩
abbrev main_cst_10 : Ref sig .tc := ⟨.hbm, 83, rfl⟩
abbrev main_v53 : Ref sig .tc := ⟨.hbm, 84, rfl⟩
abbrev main_v54 : Ref sig .tc := ⟨.hbm, 85, rfl⟩
abbrev main_cst_11 : Ref sig .tc := ⟨.hbm, 86, rfl⟩
abbrev main_v55 : Ref sig .tc := ⟨.hbm, 87, rfl⟩
abbrev main_v56 : Ref sig .tc := ⟨.hbm, 88, rfl⟩
abbrev main_cst_12 : Ref sig .tc := ⟨.hbm, 89, rfl⟩
abbrev main_call3_v0 : Ref sig .tc := ⟨.hbm, 90, rfl⟩
abbrev main_call3_v1 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_c_13 : Ref sig .tc := ⟨.hbm, 104, rfl⟩
abbrev main_c_14 : Ref sig .tc := ⟨.hbm, 105, rfl⟩
abbrev main_call5_v0 : Ref sig .tc := ⟨.hbm, 106, rfl⟩
abbrev main_call5_v1 : Ref sig .tc := ⟨.hbm, 107, rfl⟩
abbrev main_call5_v2 : Ref sig .tc := ⟨.hbm, 108, rfl⟩
abbrev main_call5_v3 : Ref sig .tc := ⟨.hbm, 109, rfl⟩
abbrev main_call5_v4 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_c_15 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_c_16 : Ref sig .tc := ⟨.hbm, 125, rfl⟩
abbrev main_v82 : Ref sig .tc := ⟨.hbm, 126, rfl⟩
abbrev main_v83 : Ref sig .tc := ⟨.hbm, 127, rfl⟩
abbrev main_c_17 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_c_18 : Ref sig .tc := ⟨.hbm, 147, rfl⟩
abbrev main_v102 : Ref sig .tc := ⟨.hbm, 148, rfl⟩
abbrev main_v103 : Ref sig .tc := ⟨.hbm, 149, rfl⟩
abbrev main_c_19 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_c_20 : Ref sig .tc := ⟨.hbm, 167, rfl⟩
abbrev main_v120 : Ref sig .tc := ⟨.hbm, 168, rfl⟩
abbrev main_v121 : Ref sig .tc := ⟨.hbm, 169, rfl⟩
abbrev main_c_21 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_cst_22 : Ref sig .tc := ⟨.hbm, 197, rfl⟩
abbrev main_v148 : Ref sig .tc := ⟨.hbm, 198, rfl⟩
abbrev main_v149 : Ref sig .tc := ⟨.hbm, 199, rfl⟩
abbrev main_cst_23 : Ref sig .tc := ⟨.hbm, 200, rfl⟩
abbrev main_v150 : Ref sig .tc := ⟨.hbm, 201, rfl⟩
abbrev main_v151 : Ref sig .tc := ⟨.hbm, 202, rfl⟩
abbrev main_cst_24 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_cst_25 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩
abbrev main_v168 : Ref sig .tc := ⟨.hbm, 221, rfl⟩
abbrev main_v169 : Ref sig .tc := ⟨.hbm, 222, rfl⟩
abbrev main_v170 : Ref sig .tc := ⟨.hbm, 223, rfl⟩

abbrev nD : Nat := 1
abbrev τ : Topo := Topo.v7x

variable {F : FTy → Type} [FloatOps F]
-- ==== Proof.Spec.lean ====
module

public import Idealize.ShloMosaic.Lib.Pipeline.ValueKit

/-! # Four-bit quantisation of one key and one value, as functions on the extended reals -/

@[expose] public section

set_option maxRecDepth 16384

noncomputable section

namespace Kivi

open Idealize.ShloMosaic

/-- The scale of a range: a fifteenth of it, or one where the range is empty. -/
def scaleOf (lo hi : EReal) : EReal :=
  if 0 < hi - lo then Ideal.div (hi - lo) (Ideal.ofBits .f32 0x41700000#32) else 1

/-- The code of `v`: rounded to nearest even, clipped to 0 … 15. -/
def codeOf (v s z : EReal) : EReal :=
  min (Ideal.ofBits .f32 0x41700000#32) (max 0 (Ideal.liftRound Ideal.roundHalfEven (Ideal.div (v - z) s)))

/-- Two codes in one byte, the first in the low nibble. -/
def byteOf (a b : EReal) : BitVec 8 := BitVec.setWidth 8 (Ideal.fptosi 32 (a + b * (Ideal.ofBits .f32 0x41800000#32)))

/-- The bits of fifteen. -/
theorem fifteen : Ideal.ofBits .f32 0x41700000#32 = ((15 : ℝ) : EReal) := by
  simp [Ideal.ofBits, Ideal.ieee, -EReal.coe_mul]; norm_num

/-- A code is one of 0 … 15. -/
theorem codeOf_nat (v s z : EReal) : ∃ n : ℕ, n < 16 ∧ codeOf v s z = ((n : ℝ) : EReal) := by
  unfold codeOf
  rw [fifteen]
  generalize Ideal.div (v - z) s = x
  induction x using EReal.rec with
  | bot => exact ⟨0, by norm_num, by rw [Ideal.liftRound_bot]; simp⟩
  | top => exact ⟨15, by norm_num, by rw [Ideal.liftRound_top]; simp⟩
  | coe r =>
    generalize hk : Ideal.roundHalfEven r = k
    have e : Ideal.liftRound Ideal.roundHalfEven (r : EReal) = ((k : ℝ) : EReal) := by rw [← hk]; rfl
    rw [e]
    refine ⟨(min 15 (max 0 k)).toNat, by omega, ?_⟩
    have h2 : (((min 15 (max 0 k)).toNat : ℕ) : ℝ) = min 15 (max 0 (k : ℝ)) := by
      have : (((min 15 (max 0 k)).toNat : ℤ)) = min 15 (max 0 k) := Int.toNat_of_nonneg (by omega)
      have h3 : (((min 15 (max 0 k)).toNat : ℕ) : ℝ) = (((min 15 (max 0 k)).toNat : ℤ) : ℝ) := by norm_cast
      rw [h3, this]; push_cast; rfl
    rw [h2, EReal.coe_strictMono.monotone.map_min, EReal.coe_strictMono.monotone.map_max]; rfl

/-- A natural number below `2 ^ 31` converts to itself. -/
theorem fptosi_nat (n : ℕ) (h : n < 2 ^ 31) : Ideal.fptosi 32 ((n : ℝ) : EReal) = BitVec.ofNat 32 n := by
  have h' : (n : ℤ) < 2 ^ 31 := by exact_mod_cast h
  unfold Ideal.fptosi
  rw [Ideal.toIntClamped_coe, if_pos (Nat.cast_nonneg n), Int.floor_natCast]
  have : max (-((2 ^ (32 - 1) : ℕ) : ℤ)) (min (((2 ^ (32 - 1) : ℕ) : ℤ) - 1) (n : ℤ)) = (n : ℤ) := by
    norm_num; omega
  rw [this, BitVec.ofInt_natCast]

/-- A code converted to an integer and back is itself. -/
theorem toInt_codeOf (v s z : EReal) : (((Ideal.fptosi 32 (codeOf v s z)).toInt : ℝ) : EReal) = codeOf v s z := by
  obtain ⟨n, hn, e⟩ := codeOf_nat v s z
  rw [e, fptosi_nat n (by omega)]
  have : (BitVec.ofNat 32 n).toInt = (n : ℤ) := by
    rw [BitVec.toInt_ofNat']
    simp [Int.bmod]; omega
  rw [this]; norm_cast

/-- The bits of sixteen. -/
theorem sixteen : Ideal.ofBits .f32 0x41800000#32 = ((16 : ℝ) : EReal) := by
  simp [Ideal.ofBits, Ideal.ieee, -EReal.coe_mul]; norm_num

/-- Or-ing the shifted second code is adding sixteen times it. -/
theorem or_shift : ∀ a b : Fin 16, BitVec.setWidth 8 (BitVec.ofNat 32 a.val ||| BitVec.ofNat 32 b.val <<< 4)
    = BitVec.setWidth 8 (BitVec.ofNat 32 (a.val + b.val * 16)) := by decide +kernel

/-- Packing by a shift and an or is packing by the sum. -/
theorem byteOf_codes (v s z v' s' z' : EReal) :
    BitVec.setWidth 8 (Ideal.fptosi 32 (codeOf v s z) ||| Ideal.fptosi 32 (codeOf v' s' z') <<< 4)
      = byteOf (codeOf v s z) (codeOf v' s' z') := by
  obtain ⟨n, hn, e⟩ := codeOf_nat v s z
  obtain ⟨k, hk, e'⟩ := codeOf_nat v' s' z'
  have hs : ((n : ℝ) : EReal) + ((k : ℝ) : EReal) * ((16 : ℝ) : EReal) = (((n + k * 16 : ℕ) : ℝ) : EReal) := by
    rw [← EReal.coe_mul, ← EReal.coe_add]; push_cast; rfl
  rw [byteOf, e, e', sixteen, hs, fptosi_nat n (by omega), fptosi_nat k (by omega), fptosi_nat _ (by omega)]
  exact or_shift ⟨n, hn⟩ ⟨k, hk⟩

/-- The column of the packing matrix: one at the even channel, sixteen at the odd one. -/
theorem sum_pack (f : Fin 256 → EReal) (p : Fin 256 → EReal) (l : Fin 128)
    (hp : ∀ i : Fin 256, p i = if i.val = 2 * l.val then 1 else if i.val = 2 * l.val + 1 then Ideal.ofBits .f32 0x41800000#32 else 0) :
    (∑ i, f i * p i) = f ⟨2 * l.val, by omega⟩ + f ⟨2 * l.val + 1, by omega⟩ * Ideal.ofBits .f32 0x41800000#32 := by
  rw [Finset.sum_eq_add (⟨2 * l.val, by omega⟩ : Fin 256) ⟨2 * l.val + 1, by omega⟩]
  · rw [hp, hp, if_pos rfl, if_neg (by simp), if_pos rfl, mul_one]
  · intro h; simpa using congrArg Fin.val h
  · intro i _ hi
    rw [hp, if_neg, if_neg, mul_zero]
    · exact fun h => hi.2 (Fin.ext h)
    · exact fun h => hi.1 (Fin.ext h)
  · intro h; exact absurd (Finset.mem_univ _) h
  · intro h; exact absurd (Finset.mem_univ _) h

/-- Row `x` of the tail's last block of 32 rows. -/
def row96 (x : Fin 32) : Fin 128 := ⟨96 + x.val, by omega⟩

/-! ## The new key: each channel over the last 31 tail keys and itself -/

section Key

variable (tail : Fin 128 → Fin 256 → EReal) (kn : Fin 256 → EReal) (d : Fin 256)

/-- The last 32 keys of channel `d`. -/
def kWindow (i : Fin 32) : EReal := if h : i.val < 31 then tail ⟨97 + i.val, by omega⟩ d else kn d

/-- The least of the last 32 keys of channel `d`: the new key's zero. -/
def kLo : EReal := Finset.univ.fold min (Ideal.ofBits .f32 0x7F800000#32) (kWindow tail kn d)
/-- The greatest of the last 32 keys of channel `d`. -/
def kHi : EReal := Finset.univ.fold max (Ideal.ofBits .f32 0xFF800000#32) (kWindow tail kn d)
/-- The new key's scale of channel `d`. -/
def kScale : EReal := scaleOf (kLo tail kn d) (kHi tail kn d)
/-- The new key's code of channel `d`. -/
def kCode : EReal := codeOf (kn d) (kScale tail kn d) (kLo tail kn d)
/-- The new key dequantised at channel `d`. -/
def kDeq : EReal := kCode tail kn d * kScale tail kn d + kLo tail kn d
/-- The new key's packed byte `p`: channels `2 p` and `2 p + 1`. -/
def kByte (p : Fin 128) : BitVec 8 :=
  byteOf (kCode tail kn ⟨2 * p.val, by omega⟩) (kCode tail kn ⟨2 * p.val + 1, by omega⟩)

end Key

/-! ## The new value: its eight groups of 32 channels -/

section Value

variable (vn : Fin 256 → EReal) (g : Fin 8) (d : Fin 256)

/-- Channel `l` of group `g` of the new value. -/
def vGroup (l : Fin 32) : EReal := vn ⟨g.val * 32 + l.val, by omega⟩
/-- The least of group `g`: the new value's zero. -/
def vLo : EReal := Finset.univ.fold min (Ideal.ofBits .f32 0x7F800000#32) (vGroup vn g)
/-- The greatest of group `g`. -/
def vHi : EReal := Finset.univ.fold max (Ideal.ofBits .f32 0xFF800000#32) (vGroup vn g)
/-- The new value's scale of group `g`. -/
def vScale : EReal := scaleOf (vLo vn g) (vHi vn g)
/-- The new value's code of channel `d`. -/
def vCode : EReal := codeOf (vn d) (vScale vn ⟨d.val / 32, by omega⟩) (vLo vn ⟨d.val / 32, by omega⟩)
/-- The new value dequantised at channel `d`. -/
def vDeq : EReal := vCode vn d * vScale vn ⟨d.val / 32, by omega⟩ + vLo vn ⟨d.val / 32, by omega⟩
/-- The new value's packed byte `p`: channels `2 p` and `2 p + 1`. -/
def vByte (p : Fin 128) : BitVec 8 :=
  byteOf (vCode vn ⟨2 * p.val, by omega⟩) (vCode vn ⟨2 * p.val + 1, by omega⟩)

end Value

/-- The row test "at least one" on words. -/
theorem sge_one : ∀ x : Fin 32, IntOp.cmpi .sge (BitVec.ofNat 32 x.val) 1#32 = BitVec.ofBool (decide (1 ≤ x.val)) := by
  decide +kernel

/-- A selection by that test, as an `if`. -/
theorem select_sge (x : Fin 32) (a b : EReal) :
    Scalar.select (IntOp.cmpi .sge (BitVec.ofNat 32 x.val) 1#32) a b = if 1 ≤ x.val then a else b := by
  rw [sge_one]
  by_cases h : 1 ≤ x.val <;> simp [Scalar.select, h]

/-- The least of the last 32 keys, taken with row 0 of a 32-row block of the tail masked out and the new key after. -/
theorem kLo_masked (tail : Fin 128 → Fin 256 → EReal) (kn : Fin 256 → EReal) (d : Fin 256) :
    min (Finset.univ.fold min (Ideal.ofBits .f32 0x7F800000#32) fun x : Fin 32 =>
        if 1 ≤ x.val then tail ⟨96 + x.val, by omega⟩ d else Ideal.ofBits .f32 0x7F800000#32) (kn d) = kLo tail kn d := by
  refine eq_of_forall_le_iff fun a => ?_
  rw [kLo, le_min_iff, Finset.le_fold_min, Finset.le_fold_min]
  constructor
  · rintro ⟨⟨h0, h1⟩, h2⟩
    refine ⟨h0, fun i _ => ?_⟩
    unfold kWindow
    split
    · rename_i h
      have := h1 ⟨i.val + 1, by omega⟩ (Finset.mem_univ _)
      rw [if_pos (by simp)] at this
      refine this.trans (le_of_eq (congrArg (tail · d) (Fin.ext ?_)))
      show 96 + (i.val + 1) = 97 + i.val; omega
    · exact h2
  · rintro ⟨h0, h1⟩
    refine ⟨⟨h0, fun x _ => ?_⟩, ?_⟩
    · split
      · rename_i h
        have := h1 ⟨x.val - 1, by omega⟩ (Finset.mem_univ _)
        rw [kWindow, dif_pos (by simp only; omega)] at this
        refine this.trans (le_of_eq (congrArg (tail · d) (Fin.ext ?_)))
        show 97 + (x.val - 1) = 96 + x.val; omega
      · exact h0
    · have := h1 ⟨31, by omega⟩ (Finset.mem_univ _)
      rwa [kWindow, dif_neg (by simp)] at this

/-- The greatest of the last 32 keys, taken with row 0 of a 32-row block of the tail masked out and the new key after. -/
theorem kHi_masked (tail : Fin 128 → Fin 256 → EReal) (kn : Fin 256 → EReal) (d : Fin 256) :
    max (Finset.univ.fold max (Ideal.ofBits .f32 0xFF800000#32) fun x : Fin 32 =>
        if 1 ≤ x.val then tail ⟨96 + x.val, by omega⟩ d else Ideal.ofBits .f32 0xFF800000#32) (kn d) = kHi tail kn d := by
  refine eq_of_forall_ge_iff fun a => ?_
  rw [kHi, max_le_iff, Finset.fold_max_le, Finset.fold_max_le]
  constructor
  · rintro ⟨⟨h0, h1⟩, h2⟩
    refine ⟨h0, fun i _ => ?_⟩
    unfold kWindow
    split
    · rename_i h
      have := h1 ⟨i.val + 1, by omega⟩ (Finset.mem_univ _)
      rw [if_pos (by simp)] at this
      refine (le_of_eq (congrArg (tail · d) (Fin.ext ?_))).trans this
      show 97 + i.val = 96 + (i.val + 1); omega
    · exact h2
  · rintro ⟨h0, h1⟩
    refine ⟨⟨h0, fun x _ => ?_⟩, ?_⟩
    · split
      · rename_i h
        have := h1 ⟨x.val - 1, by omega⟩ (Finset.mem_univ _)
        rw [kWindow, dif_pos (by simp only; omega)] at this
        refine (le_of_eq (congrArg (tail · d) (Fin.ext ?_))).trans this
        show 96 + x.val = 97 + (x.val - 1); omega
      · exact h0
    · have := h1 ⟨31, by omega⟩ (Finset.mem_univ _)
      rwa [kWindow, dif_neg (by simp)] at this

end Kivi
-- ==== Proof.KBody.lean ====
module

public import proofs.«01_k».proof.Proof.Gen.KernelIdeal.Frame
import all proofs.«01_k».proof.Proof.Gen.KernelIdeal.Frame

/-! # One sequence of the attention kernel, written once

The attention kernel handles four sequences per grid point, each by the same operations.  Here these operations are
written once, as a function `body` of the values loaded for one sequence, and the four pieces the kernel writes are
shown to be `body` at the loads of sequence 0, 1, 2 and 3. -/

@[expose] public section

set_option maxRecDepth 16384
set_option synthInstance.maxSize 4096

noncomputable section

namespace Kivi

open Idealize.ShloMosaic Idealize.SL.Sem Cert.KernelIdeal Cert.KernelIdeal.Gen

variable {F : FTy → Type} [FloatOps F]

/-- The values one sequence loads: its queries, the queries' permuted copy, key and value codes by tile (seven of 256
    tokens, then one of 128), the key scales and zeros by group of 32 tokens, the value scales and zeros by block of
    128 tokens and group of 32 channels, the unquantised tail, and the new token's key and value. -/
structure Loads (F : FTy → Type) [FloatOps F] where
  q : Vec F S1x16x256 .bf16
  qs : FVec F S16x256 .bf16
  kc : Fin 7 → Vec F S1x256x128 .i8
  kcL : Vec F S1x128x128 .i8
  ks : Fin 60 → Vec F S1x256 .f32
  kz : Fin 60 → Vec F S1x256 .f32
  vc : Fin 7 → Vec F S1x256x128 .i8
  vcL : Vec F S1x128x128 .i8
  vs : Fin 15 → Fin 8 → Vec F S1x128 .f32
  vz : Fin 15 → Fin 8 → Vec F S1x128 .f32
  kt : Vec F S1x128x256 .bf16
  vt : Vec F S1x128x256 .bf16
  kd : Vec F S1x1x256 .bf16
  vd : Vec F S1x1x256 .bf16

/-- The low nibbles of 256 rows of packed codes. -/
def lo256 (c : Vec F S1x256x128 .i8) : FVec F S256x128 .bf16 :=
  sitofp .bf16 (bitcast S256x128 8 (andi (bitcast S64x128 32 (shapeCast S256x128 c shapeCasts_S1x256x128_S256x128)
    bitcasts_S256x128_w8_S64x128_w32) (broadcast S64x128 252645135#32)) bitcasts_S64x128_w32_S256x128_w8)

/-- The high nibbles of 256 rows of packed codes. -/
def hi256 (c : Vec F S1x256x128 .i8) : FVec F S256x128 .bf16 :=
  sitofp .bf16 (bitcast S256x128 8 (andi (shrsi (bitcast S64x128 32
    (shapeCast S256x128 c shapeCasts_S1x256x128_S256x128) bitcasts_S256x128_w8_S64x128_w32) (broadcast S64x128 4#32))
    (broadcast S64x128 252645135#32)) bitcasts_S64x128_w32_S256x128_w8)

/-- The low nibbles of 128 rows of packed codes. -/
def lo128 (c : Vec F S1x128x128 .i8) : FVec F S128x128 .bf16 :=
  sitofp .bf16 (bitcast S128x128 8 (andi (bitcast S32x128 32 (shapeCast S128x128 c shapeCasts_S1x128x128_S128x128)
    bitcasts_S128x128_w8_S32x128_w32) (broadcast S32x128 252645135#32)) bitcasts_S32x128_w32_S128x128_w8)

/-- The high nibbles of 128 rows of packed codes. -/
def hi128 (c : Vec F S1x128x128 .i8) : FVec F S128x128 .bf16 :=
  sitofp .bf16 (bitcast S128x128 8 (andi (shrsi (bitcast S32x128 32
    (shapeCast S128x128 c shapeCasts_S1x128x128_S128x128) bitcasts_S128x128_w8_S32x128_w32) (broadcast S32x128 4#32))
    (broadcast S32x128 252645135#32)) bitcasts_S32x128_w32_S128x128_w8)

/-- One group's scale (or zero) row under the 32 tokens of the group. -/
def kRow (r : Vec F S1x256 .f32) : FVec F S32x256 .bf16 :=
  truncf .bf16 (broadcastTo S32x256 (shapeCast S1x256 r shapeCasts_S1x256_S1x256) broadcasts_S1x256_S32x256)
    bitsLt_bf16_f32

/-- One channel group's scale (or zero) row, 128 tokens, under the group's 16 packed channels. -/
def vRow (r : Vec F S1x128 .f32) : FVec F S16x128 .bf16 :=
  truncf .bf16 (broadcastTo S16x128 (shapeCast S1x128 r shapeCasts_S1x128_S1x128) broadcasts_S1x128_S16x128)
    bitsLt_bf16_f32

/-- Eight rows over the 256 tokens of a tile. -/
def kRows8 (r : Fin 8 → Vec F S1x256 .f32) : FVec F S256x256 .bf16 :=
  concatenate S256x256 0 [⟨S32x256, kRow (r 0)⟩, ⟨S32x256, kRow (r 1)⟩, ⟨S32x256, kRow (r 2)⟩, ⟨S32x256, kRow (r 3)⟩,
    ⟨S32x256, kRow (r 4)⟩, ⟨S32x256, kRow (r 5)⟩, ⟨S32x256, kRow (r 6)⟩, ⟨S32x256, kRow (r 7)⟩]
    concatenates_S32x256_S32x256_S32x256_S32x256_S32x256_S32x256_S32x256_S32x256_S256x256_d0

/-- Four rows over the 128 tokens of the last tile. -/
def kRows4 (r : Fin 4 → Vec F S1x256 .f32) : FVec F S128x256 .bf16 :=
  concatenate S128x256 0 [⟨S32x256, kRow (r 0)⟩, ⟨S32x256, kRow (r 1)⟩, ⟨S32x256, kRow (r 2)⟩, ⟨S32x256, kRow (r 3)⟩]
    concatenates_S32x256_S32x256_S32x256_S32x256_S128x256_d0

/-- Scores of a tile of 256 quantised keys. -/
def score256 (qs : FVec F S16x256 .bf16) (c : Vec F S1x256x128 .i8) (s z : Fin 8 → Vec F S1x256 .f32) :
    FVec F S16x256 .f32 :=
  mulf (matmul dot_S16x256_S256x256_S16x256_1_1_0_0_n_n none qs
      (addf (mulf (concatenate S256x256 1 [⟨S256x128, lo256 c⟩, ⟨S256x128, hi256 c⟩]
        concatenates_S256x128_S256x128_S256x256_d1) (kRows8 s)) (kRows8 z))
      (constant S16x256 .f32 0x00000000#32))
    (broadcast S16x256 (Scalar.ofBits .f32 0x3D800000#32))

/-- Scores of the last tile, 128 quantised keys. -/
def score128 (qs : FVec F S16x256 .bf16) (c : Vec F S1x128x128 .i8) (s z : Fin 4 → Vec F S1x256 .f32) :
    FVec F S16x128 .f32 :=
  mulf (matmul dot_S16x256_S128x256_S16x128_1_1_0_0_n_n none qs
      (addf (mulf (concatenate S128x256 1 [⟨S128x128, lo128 c⟩, ⟨S128x128, hi128 c⟩]
        concatenates_S128x128_S128x128_S128x256_d1) (kRows4 s)) (kRows4 z))
      (constant S16x128 .f32 0x00000000#32))
    (broadcast S16x128 (Scalar.ofBits .f32 0x3D800000#32))

/-- Scores of the unquantised tail keys. -/
def scoreTail (q : FVec F S16x256 .bf16) (k : Vec F S1x128x256 .bf16) : FVec F S16x128 .f32 :=
  mulf (matmul dot_S16x256_S128x256_S16x128_1_1_0_0_n_n none q (shapeCast S128x256 k shapeCasts_S1x128x256_S128x256)
      (constant S16x128 .f32 0x00000000#32))
    (broadcast S16x128 (Scalar.ofBits .f32 0x3D800000#32))

/-- Score of the new key. -/
def scoreNew (q : FVec F S16x256 .bf16) (k : Vec F S1x1x256 .bf16) : FVec F S16x1 .f32 :=
  mulf (shapeCast S16x1 (multiReduction .add [1] S16 (mulf (extf .f32 q bitsLt_bf16_f32) (broadcastTo S16x256
      (extf .f32 (shapeCast S1x256 k shapeCasts_S1x1x256_S1x256) bitsLt_bf16_f32) broadcasts_S1x256_S16x256))
      0x00000000#32 reduces_S16x256_S16 (.inl rfl) rfl) shapeCasts_S16_S16x1)
    (broadcast S16x1 (Scalar.ofBits .f32 0x3D800000#32))

/-- Row maximum of 256 scores. -/
def max256 (s : FVec F S16x256 .f32) : FVec F S16x1 .f32 :=
  shapeCast S16x1 (multiReduction .maximumf [1] S16 s 0xFF800000#32 reduces_S16x256_S16 (.inl rfl) rfl)
    shapeCasts_S16_S16x1

/-- Row maximum of 128 scores. -/
def max128 (s : FVec F S16x128 .f32) : FVec F S16x1 .f32 :=
  shapeCast S16x1 (multiReduction .maximumf [1] S16 s 0xFF800000#32 reduces_S16x128_S16 (.inl rfl) rfl)
    shapeCasts_S16_S16x1

/-- Row sum of 256 numbers. -/
def sum256 (s : FVec F S16x256 .f32) : FVec F S16x1 .f32 :=
  shapeCast S16x1 (multiReduction .add [1] S16 s 0x00000000#32 reduces_S16x256_S16 (.inl rfl) rfl)
    shapeCasts_S16_S16x1

/-- Row sum of 128 numbers. -/
def sum128 (s : FVec F S16x128 .f32) : FVec F S16x1 .f32 :=
  shapeCast S16x1 (multiReduction .add [1] S16 s 0x00000000#32 reduces_S16x128_S16 (.inl rfl) rfl)
    shapeCasts_S16_S16x1

/-- Exponentials of 256 scores less the maximum. -/
def prob256 (s : FVec F S16x256 .f32) (m : FVec F S16x1 .f32) : FVec F S16x256 .f32 :=
  exp (subf s (broadcastTo S16x256 m broadcasts_S16x1_S16x256))

/-- Exponentials of 128 scores less the maximum. -/
def prob128 (s : FVec F S16x128 .f32) (m : FVec F S16x1 .f32) : FVec F S16x128 .f32 :=
  exp (subf s (broadcastTo S16x128 m broadcasts_S16x1_S16x128))

/-- The scales (or zeros) of a block of 128 tokens, token by packed channel. -/
def vBlock (r : Fin 8 → Vec F S1x128 .f32) : FVec F S128x128 .bf16 :=
  transpose S128x128 [1, 0] (concatenate S128x128 0 [⟨S16x128, vRow (r 0)⟩, ⟨S16x128, vRow (r 1)⟩,
    ⟨S16x128, vRow (r 2)⟩, ⟨S16x128, vRow (r 3)⟩, ⟨S16x128, vRow (r 4)⟩, ⟨S16x128, vRow (r 5)⟩, ⟨S16x128, vRow (r 6)⟩,
    ⟨S16x128, vRow (r 7)⟩] concatenates_S16x128_S16x128_S16x128_S16x128_S16x128_S16x128_S16x128_S16x128_S128x128_d0)
    transposes_S128x128_p1_0_S128x128

/-- The scales (or zeros) of a tile of 256 tokens. -/
def vBlocks (a b : FVec F S128x128 .bf16) : FVec F S256x128 .bf16 :=
  concatenate S256x128 0 [⟨S128x128, a⟩, ⟨S128x128, b⟩] concatenates_S128x128_S128x128_S256x128_d0

/-- Weights times values over a tile of 256 quantised tokens. -/
def pv256 (p : FVec F S16x256 .f32) (c : Vec F S1x256x128 .i8) (s z : FVec F S256x128 .bf16) : FVec F S16x256 .f32 :=
  matmul dot_S16x256_S256x256_S16x256_1_0_0_1_n_n none (truncf .bf16 p bitsLt_bf16_f32)
    (concatenate S256x256 1 [⟨S256x128, addf (mulf (lo256 c) s) z⟩, ⟨S256x128, addf (mulf (hi256 c) s) z⟩]
      concatenates_S256x128_S256x128_S256x256_d1) (constant S16x256 .f32 0x00000000#32)

/-- Weights times values over the last tile of 128 quantised tokens. -/
def pv128 (p : FVec F S16x128 .f32) (c : Vec F S1x128x128 .i8) (s z : FVec F S128x128 .bf16) : FVec F S16x256 .f32 :=
  matmul dot_S16x128_S128x256_S16x256_1_0_0_1_n_n none (truncf .bf16 p bitsLt_bf16_f32)
    (concatenate S128x256 1 [⟨S128x128, addf (mulf (lo128 c) s) z⟩, ⟨S128x128, addf (mulf (hi128 c) s) z⟩]
      concatenates_S128x128_S128x128_S128x256_d1) (constant S16x256 .f32 0x00000000#32)

/-- Lane numbers halved, plus `h`, negative ones from the end. -/
def halfLane (h : BitVec 32) : IVec S16x128 32 :=
  shapeCast S16x128 (shapeCast S16x128x1
    (select (cmpi .slt (addi (shrsi (iota .tc S16x128 32 [1] iota_S16x128_d1_w32) (broadcast S16x128 1#32))
        (broadcast S16x128 h)) (broadcast S16x128 0#32))
      (addi (addi (shrsi (iota .tc S16x128 32 [1] iota_S16x128_d1_w32) (broadcast S16x128 1#32)) (broadcast S16x128 h))
        (broadcast S16x128 128#32))
      (addi (shrsi (iota .tc S16x128 32 [1] iota_S16x128_d1_w32) (broadcast S16x128 1#32)) (broadcast S16x128 h)))
    shapeCasts_S16x128_S16x128x1) shapeCasts_S16x128x1_S16x128

/-- Which lanes are even. -/
def evenLane : IVec S16x128 1 :=
  cmpi .eq (andi (iota .tc S16x128 32 [1] iota_S16x128_d1_w32) (broadcast S16x128 1#32)) (broadcast S16x128 0#32)

/-- The two halves of the channels interleaved. -/
def interleave (a : FVec F S16x256 .f32) : FVec F S16x256 .f32 :=
  concatenate S16x256 1
    [⟨S16x128, select evenLane
      (dynamicGather 1 (extractStridedSlice S16x128 ![0, 0] a slices_S16x256_o0_0_S16x128) (halfLane 0#32))
      (dynamicGather 1 (extractStridedSlice S16x128 ![0, 128] a slices_S16x256_o0_128_S16x128) (halfLane 0#32))⟩,
     ⟨S16x128, select evenLane
      (dynamicGather 1 (extractStridedSlice S16x128 ![0, 0] a slices_S16x256_o0_0_S16x128) (halfLane 64#32))
      (dynamicGather 1 (extractStridedSlice S16x128 ![0, 128] a slices_S16x256_o0_128_S16x128) (halfLane 64#32))⟩]
    concatenates_S16x128_S16x128_S16x256_d1

namespace Loads

variable (L : Loads F)

/-- The queries, heads by channels. -/
def qq : FVec F S16x256 .bf16 := shapeCast S16x256 L.q shapeCasts_S1x16x256_S16x256

/-- Scores of tile `i`. -/
def s256 (i : Fin 7) : FVec F S16x256 .f32 :=
  score256 L.qs (L.kc i) (fun r => L.ks ⟨8 * i.val + r.val, by omega⟩) (fun r => L.kz ⟨8 * i.val + r.val, by omega⟩)

/-- Scores of the last tile. -/
def s128 : FVec F S16x128 .f32 :=
  score128 L.qs L.kcL (fun r => L.ks ⟨56 + r.val, by omega⟩) (fun r => L.kz ⟨56 + r.val, by omega⟩)

/-- Scores of the tail. -/
def sTail : FVec F S16x128 .f32 := scoreTail L.qq L.kt

/-- Score of the new token. -/
def sNew : FVec F S16x1 .f32 := scoreNew L.qq L.kd

/-- The maximum of all scores and the floor. -/
def mx : FVec F S16x1 .f32 :=
  maximumf (maximumf (maximumf (maximumf (maximumf (maximumf (maximumf (maximumf (maximumf (maximumf
    L.sNew (max256 (L.s256 0))) (max256 (L.s256 1))) (max256 (L.s256 2))) (max256 (L.s256 3))) (max256 (L.s256 4)))
    (max256 (L.s256 5))) (max256 (L.s256 6))) (max128 L.s128)) (max128 L.sTail))
    (broadcast S16x1 (Scalar.ofBits .f32 0xF149F2CA#32))

/-- Exponentials of tile `i`. -/
def p256 (i : Fin 7) : FVec F S16x256 .f32 := prob256 (L.s256 i) L.mx

/-- Exponentials of the last tile. -/
def p128 : FVec F S16x128 .f32 := prob128 L.s128 L.mx

/-- Exponentials of the tail. -/
def pTail : FVec F S16x128 .f32 := prob128 L.sTail L.mx

/-- Exponential of the new token. -/
def pNew : FVec F S16x1 .f32 := exp (subf L.sNew L.mx)

/-- The denominator. -/
def den : FVec F S16x1 .f32 :=
  addf (addf (addf (addf (addf (addf (addf (addf (addf L.pNew (sum256 (L.p256 0))) (sum256 (L.p256 1)))
    (sum256 (L.p256 2))) (sum256 (L.p256 3))) (sum256 (L.p256 4))) (sum256 (L.p256 5))) (sum256 (L.p256 6)))
    (sum128 L.p128)) (sum128 L.pTail)

/-- Weights times values of tile `i`. -/
def o256 (i : Fin 7) : FVec F S16x256 .f32 :=
  pv256 (L.p256 i) (L.vc i)
    (vBlocks (vBlock (L.vs ⟨2 * i.val, by omega⟩)) (vBlock (L.vs ⟨2 * i.val + 1, by omega⟩)))
    (vBlocks (vBlock (L.vz ⟨2 * i.val, by omega⟩)) (vBlock (L.vz ⟨2 * i.val + 1, by omega⟩)))

/-- Weights times values of the last tile. -/
def o128 : FVec F S16x256 .f32 := pv128 L.p128 L.vcL (vBlock (L.vs 14)) (vBlock (L.vz 14))

/-- Weights times values over all quantised tokens, channels still in the order of the packed halves. -/
def oq : FVec F S16x256 .f32 :=
  addf (addf (addf (addf (addf (addf (addf (addf (broadcast S16x256 (Scalar.ofBits .f32 0x00000000#32))
    (L.o256 0)) (L.o256 1)) (L.o256 2)) (L.o256 3)) (L.o256 4)) (L.o256 5)) (L.o256 6)) L.o128

/-- The numerator. -/
def num : FVec F S16x256 .f32 :=
  addf (addf (interleave L.oq)
    (matmul dot_S16x128_S128x256_S16x256_1_0_0_1_n_n none (truncf .bf16 L.pTail bitsLt_bf16_f32)
      (shapeCast S128x256 L.vt shapeCasts_S1x128x256_S128x256) (constant S16x256 .f32 0x00000000#32)))
    (mulf (broadcastTo S16x256 L.pNew broadcasts_S16x1_S16x256)
      (broadcastTo S16x256 (extf .f32 (shapeCast S1x256 L.vd shapeCasts_S1x1x256_S1x256) bitsLt_bf16_f32)
        broadcasts_S1x256_S16x256))

/-- One sequence's result. -/
def out : FVec F S1x16x256 .bf16 :=
  shapeCast S1x16x256 (truncf .bf16 (divf L.num (broadcastTo S16x256 L.den broadcasts_S16x1_S16x256))
    bitsLt_bf16_f32) shapeCasts_S16x256_S1x16x256

end Loads

/-- The queries times the permutation, the four sequences stacked. -/
def qsAll (perm : Vec F S256x256 .bf16) (q : Vec F S4x16x256 .bf16) : FVec F S64x256 .bf16 := k1_pay3 perm q

/-- The permuted queries hold 16 rows for each batch row. -/
theorem slices_qs (b : Fin 4) : S64x256.Slices ![16 * b.val, 0] S16x256 := by
  revert b; decide

/-- The queries of batch row `b` are inside their block. -/
theorem inb_q (b : Fin 4) : ∀ a, (![b.val, 0, 0] : Fin 3 → Nat) a + S1x16x256.size a ≤ S4x16x256.size a := by
  revert b; decide

/-- Tile `i` of 256 tokens of batch row `b` is inside the codes' block. -/
theorem inb_c256 (b : Fin 4) (i : Fin 7) :
    ∀ a, (![b.val, 256 * i.val, 0] : Fin 3 → Nat) a + S1x256x128.size a ≤ S4x1920x128.size a := by
  revert b i; decide

/-- The last 128 tokens of batch row `b` are inside the codes' block. -/
theorem inb_c128 (b : Fin 4) :
    ∀ a, (![b.val, 1792, 0] : Fin 3 → Nat) a + S1x128x128.size a ≤ S4x1920x128.size a := by
  revert b; decide

/-- Row `r` of the scales of batch row `b` is inside the scratch buffer. -/
theorem inb_krow (b : Fin 4) (r : Fin 60) :
    ∀ a, (![60 * b.val + r.val, 0] : Fin 2 → Nat) a + S1x256.size a ≤ S240x256.size a := by
  intro a
  fin_cases a
  · show 60 * b.val + r.val + 1 ≤ 240
    omega
  · show 0 + 256 ≤ 256
    decide

/-- The value scales of batch row `b` are inside the scratch buffer. -/
theorem inb_vslab (b : Fin 4) : ∀ a, (![b.val, 0, 0] : Fin 3 → Nat) a + S1x8x1920.size a ≤ S4x8x1920.size a := by
  revert b; decide

/-- 128 tokens of one group are inside the value scales. -/
theorem inb_vrow (j : Fin 15) (g : Fin 8) :
    ∀ a, (![g.val, 128 * j.val] : Fin 2 → Nat) a + S1x128.size a ≤ S8x1920.size a := by
  revert j g; decide

/-- The tail of batch row `b` is inside its block. -/
theorem inb_t (b : Fin 4) : ∀ a, (![b.val, 0, 0] : Fin 3 → Nat) a + S1x128x256.size a ≤ S4x128x256.size a := by
  revert b; decide

/-- The new key or value of batch row `b` is inside its block. -/
theorem inb_d (b : Fin 4) : ∀ a, (![b.val, 0, 0] : Fin 3 → Nat) a + S1x1x256.size a ≤ S4x1x256.size a := by
  revert b; decide

/-- Row `(g, 128 j)` of sequence `b`'s slab of a value scale buffer. -/
def vrow (m : Memref sig .tc .vmem S4x8x1920 .f32) (L : List (View.Piece (Elt F) S4x8x1920 .f32)) (b : Fin 4)
    (j : Fin 15) (g : Fin 8) : Vec F S1x128 .f32 :=
  LoadRect.valAlong (lr := (Rect.unit (s := S8x1920) ![g.val, 128 * j.val] S1x128.size (inb_vrow j g)).toLoadRect)
    (LR := (Rect.unit (s := S8x1920) ![g.val, 128 * j.val] S1x128.size (inb_vrow j g)).toLoadRect.consLift
      ![1, 8, 1920] rfl (by decide)) (by rfl)
    (m.view.readCov L ((Rect.unit (s := S4x8x1920) ![b.val, 0, 0] S1x8x1920.size (inb_vslab b)).withinL
      ((Rect.unit (s := S8x1920) ![g.val, 128 * j.val] S1x128.size (inb_vrow j g)).toLoadRect.consLift
        ![1, 8, 1920] rfl (by decide)) (fun _ => rfl)))

variable (c : Dev nD)
  (arg1 : Memref sig .tc .vmem S4x16x256 .bf16) (harg1 : arg1.IsWhole)
  (arg2 : Memref sig .tc .vmem S4x1920x128 .i8) (harg2 : arg2.IsWhole)
  (arg3 : Memref sig .tc .vmem S480x128 .f32) (harg3 : arg3.IsWhole)
  (arg4 : Memref sig .tc .vmem S480x128 .f32) (harg4 : arg4.IsWhole)
  (arg5 : Memref sig .tc .vmem S4x1920x128 .i8) (harg5 : arg5.IsWhole)
  (arg6 : Memref sig .tc .vmem S4x8x1920 .f32) (harg6 : arg6.IsWhole)
  (arg7 : Memref sig .tc .vmem S4x8x1920 .f32) (harg7 : arg7.IsWhole)
  (arg8 : Memref sig .tc .vmem S4x128x256 .bf16) (harg8 : arg8.IsWhole)
  (arg9 : Memref sig .tc .vmem S4x128x256 .bf16) (harg9 : arg9.IsWhole)
  (arg10 : Memref sig .tc .vmem S4x1x256 .bf16) (harg10 : arg10.IsWhole)
  (arg11 : Memref sig .tc .vmem S4x1x256 .bf16) (harg11 : arg11.IsWhole)
  (arg12 : Memref sig .tc .vmem S256x256 .bf16) (harg12 : arg12.IsWhole)
  (arg14 : Memref sig .tc .vmem S240x256 .f32)
  (arg15 : Memref sig .tc .vmem S240x256 .f32)
  (arg16 : Memref sig .tc .vmem S4x8x1920 .f32)
  (arg17 : Memref sig .tc .vmem S4x8x1920 .f32)
  (x0 : Vec F S4x16x256 .bf16)
  (x1 : Vec F S4x1920x128 .i8)
  (x2 : Vec F S480x128 .f32)
  (x3 : Vec F S480x128 .f32)
  (x4 : Vec F S4x1920x128 .i8)
  (x5 : Vec F S4x8x1920 .f32)
  (x6 : Vec F S4x8x1920 .f32)
  (x7 : Vec F S4x128x256 .bf16)
  (x8 : Vec F S4x128x256 .bf16)
  (x9 : Vec F S4x1x256 .bf16)
  (x10 : Vec F S4x1x256 .bf16)
  (x11 : Vec F S256x256 .bf16)

/-- What sequence `b` of a grid point loads. -/
def loads (b : Fin 4) : Loads F where
  q := arg1.view.readAt (Elt F) (Rect.unit (s := S4x16x256) ![b.val, 0, 0] S1x16x256.size (inb_q b)).toLoadRect
    (harg1.unread x0)
  qs := extractStridedSlice S16x256 ![16 * b.val, 0]
    (qsAll (arg12.view.readAt (Elt F) (Rect.unit (s := S256x256) ![0, 0] S256x256.size
        inb_S256x256_S256x256_0_0).toLoadRect (harg12.unread x11))
      (arg1.view.readAt (Elt F) (Rect.unit (s := S4x16x256) ![0, 0, 0] S4x16x256.size
        inb_S4x16x256_S4x16x256_0_0_0).toLoadRect (harg1.unread x0))) (slices_qs b)
  kc i := arg2.view.readAt (Elt F) (Rect.unit (s := S4x1920x128) ![b.val, 256 * i.val, 0] S1x256x128.size
    (inb_c256 b i)).toLoadRect (harg2.unread x1)
  kcL := arg2.view.readAt (Elt F) (Rect.unit (s := S4x1920x128) ![b.val, 1792, 0] S1x128x128.size
    (inb_c128 b)).toLoadRect (harg2.unread x1)
  ks r := arg14.view.readCov (kernelRun1_A.sl.HS0_1 c arg3 harg3 arg12 harg12 x2 x11)
    (Rect.unit (s := S240x256) ![60 * b.val + r.val, 0] S1x256.size (inb_krow b r)).toLoadRect
  kz r := arg15.view.readCov (kernelRun1_A.sl.HS1_1 c arg4 harg4 arg12 harg12 x3 x11)
    (Rect.unit (s := S240x256) ![60 * b.val + r.val, 0] S1x256.size (inb_krow b r)).toLoadRect
  vc i := arg5.view.readAt (Elt F) (Rect.unit (s := S4x1920x128) ![b.val, 256 * i.val, 0] S1x256x128.size
    (inb_c256 b i)).toLoadRect (harg5.unread x4)
  vcL := arg5.view.readAt (Elt F) (Rect.unit (s := S4x1920x128) ![b.val, 1792, 0] S1x128x128.size
    (inb_c128 b)).toLoadRect (harg5.unread x4)
  vs j g := vrow arg16 (kernelRun1_A.sl.HS2_4 c arg6 harg6 x5) b j g
  vz j g := vrow arg17 (kernelRun1_A.sl.HS3_4 c arg7 harg7 x6) b j g
  kt := arg8.view.readAt (Elt F) (Rect.unit (s := S4x128x256) ![b.val, 0, 0] S1x128x256.size (inb_t b)).toLoadRect
    (harg8.unread x7)
  vt := arg9.view.readAt (Elt F) (Rect.unit (s := S4x128x256) ![b.val, 0, 0] S1x128x256.size (inb_t b)).toLoadRect
    (harg9.unread x8)
  kd := arg10.view.readAt (Elt F) (Rect.unit (s := S4x1x256) ![b.val, 0, 0] S1x1x256.size (inb_d b)).toLoadRect
    (harg10.unread x9)
  vd := arg11.view.readAt (Elt F) (Rect.unit (s := S4x1x256) ![b.val, 0, 0] S1x1x256.size (inb_d b)).toLoadRect
    (harg11.unread x10)

/-- What one grid point stores: batch row by batch row, the attention of the loaded values. -/
theorem pieces (i : grid1.Coords) (arg13 : Memref sig .tc .vmem S4x16x256 .bf16) (harg13 : arg13.IsWhole)
    (harg14 : arg14.IsWhole) (harg15 : arg15.IsWhole) (harg16 : arg16.IsWhole) (harg17 : arg17.IsWhole) :
    (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11).1 =
      [⟨Rect.unit (s := S4x16x256) ![3, 0, 0] S1x16x256.size inb_S4x16x256_S1x16x256_3_0_0,
          (loads c arg1 harg1 arg2 harg2 arg3 harg3 arg4 harg4 arg5 harg5 arg6 harg6 arg7 harg7 arg8 harg8 arg9 harg9 arg10 harg10 arg11 harg11 arg12 harg12 arg14 arg15 arg16 arg17 x0 x1 x2 x3 x4 x5 x6 x7 x8 x9 x10 x11 3).out⟩,
       ⟨Rect.unit (s := S4x16x256) ![2, 0, 0] S1x16x256.size inb_S4x16x256_S1x16x256_2_0_0,
          (loads c arg1 harg1 arg2 harg2 arg3 harg3 arg4 harg4 arg5 harg5 arg6 harg6 arg7 harg7 arg8 harg8 arg9 harg9 arg10 harg10 arg11 harg11 arg12 harg12 arg14 arg15 arg16 arg17 x0 x1 x2 x3 x4 x5 x6 x7 x8 x9 x10 x11 2).out⟩,
       ⟨Rect.unit (s := S4x16x256) ![1, 0, 0] S1x16x256.size inb_S4x16x256_S1x16x256_1_0_0,
          (loads c arg1 harg1 arg2 harg2 arg3 harg3 arg4 harg4 arg5 harg5 arg6 harg6 arg7 harg7 arg8 harg8 arg9 harg9 arg10 harg10 arg11 harg11 arg12 harg12 arg14 arg15 arg16 arg17 x0 x1 x2 x3 x4 x5 x6 x7 x8 x9 x10 x11 1).out⟩,
       ⟨Rect.unit (s := S4x16x256) ![0, 0, 0] S1x16x256.size inb_S4x16x256_S1x16x256_0_0_0,
          (loads c arg1 harg1 arg2 harg2 arg3 harg3 arg4 harg4 arg5 harg5 arg6 harg6 arg7 harg7 arg8 harg8 arg9 harg9 arg10 harg10 arg11 harg11 arg12 harg12 arg14 arg15 arg16 arg17 x0 x1 x2 x3 x4 x5 x6 x7 x8 x9 x10 x11 0).out⟩] := by
  sl_kernel_rfl

end Kivi
-- ==== Proof.KPoint.lean ====
module

public import proofs.«01_k».proof.Proof.KBody
public import Idealize.ShloMosaic.Lib.Pointwise
public import Idealize.ShloMosaic.Lib.BitcastFour

/-! # One sequence of the attention kernel, number by number

Each block of `KBody` read at one index, over the extended reals. -/

@[expose] public section

set_option maxRecDepth 16384

noncomputable section

namespace Kivi

open Idealize.ShloMosaic Idealize.ShloMosaic.TcCoe Idealize.SL.Sem Cert.KernelIdeal Cert.KernelIdeal.Gen

/-- The low nibble (`p = 0`) or the high nibble of a byte, as a number. -/
def nib (b : BitVec 8) (p : Nat) : EReal :=
  if p = 0 then (((b.toNat % 16 : Nat) : ℝ) : EReal) else (((b.toNat / 16 : Nat) : ℝ) : EReal)

/-- Words read at eight bits: bit `q` of byte row `p` is bit `8 (p % 4) + q` of word row `p / 4`. -/
theorem bitcast_32_8_bit {R r n : Nat} (x : (⟨2, ![r, n]⟩ : Shape).Idx → BitVec 32)
    (h : (⟨2, ![r, n]⟩ : Shape).Bitcasts 32 ⟨2, ![R, n]⟩ 8) (p : Fin R) (l : Fin n) (q : Nat) (hq : q < 8)
    (a : Fin r) (ha : a.val = p.val / 4) :
    (bitcast ⟨2, ![R, n]⟩ 8 x h (ix2 p l)).getLsbD q = (x (ix2 a l)).getLsbD (8 * (p.val % 4) + q) := by
  rw [bitcast_getLsbD x h _ q hq (by decide)]
  have hrow : (⟨2, ![R, n]⟩ : Shape).row (ix2 p l) = p.val := rfl
  have e1 : ((⟨2, ![R, n]⟩ : Shape).row (ix2 p l) * 8 + q) / 32 = p.val / 4 := by rw [hrow]; omega
  have e2 : ((⟨2, ![R, n]⟩ : Shape).row (ix2 p l) * 8 + q) % 32 = 8 * (p.val % 4) + q := by rw [hrow]; omega
  rw [e2]
  congr 2
  funext c
  match c with
  | ⟨0, _⟩ => exact Fin.ext ((h.srcIdx_row _ _ _ ⟨0, Nat.zero_lt_two⟩ rfl).trans (e1.trans ha.symm))
  | ⟨1, _⟩ => exact Fin.ext (h.srcIdx_other _ _ _ ⟨1, Nat.one_lt_two⟩ (by show ¬ 1 + 2 = 2; omega))

/-- The bits of the mask `0x0F0F0F0F`: the low four of each byte. -/
theorem mask_bit (i q : Nat) (hi : i < 4) (hq : q < 8) :
    (252645135#32 : BitVec 32).getLsbD (8 * i + q) = decide (q < 4) := by
  have : ∀ i : Fin 4, ∀ q : Fin 8, (252645135#32 : BitVec 32).getLsbD (8 * i.val + q.val) = decide (q.val < 4) := by
    decide
  exact this ⟨i, hi⟩ ⟨q, hq⟩

/-- Masking the words of a byte array with `0x0F0F0F0F` keeps each byte's low nibble. -/
theorem word_lo {R r n : Nat} (x : (⟨2, ![R, n]⟩ : Shape).Idx → BitVec 8)
    (h : (⟨2, ![R, n]⟩ : Shape).Bitcasts 8 ⟨2, ![r, n]⟩ 32) (h' : (⟨2, ![r, n]⟩ : Shape).Bitcasts 32 ⟨2, ![R, n]⟩ 8)
    (p : Fin R) (l : Fin n) (hr : R = 4 * r) :
    bitcast ⟨2, ![R, n]⟩ 8 (andi (bitcast ⟨2, ![r, n]⟩ 32 x h) (broadcast ⟨2, ![r, n]⟩ 252645135#32)) h' (ix2 p l)
      = x (ix2 p l) &&& 15#8 := by
  apply BitVec.eq_of_getLsbD_eq
  intro q hq
  rw [bitcast_32_8_bit _ h' p l q hq ⟨p.val / 4, by omega⟩ rfl]
  show (bitcast _ 32 x h (ix2 _ l) &&& 252645135#32).getLsbD _ = _
  rw [BitVec.getLsbD_and, BitVec.getLsbD_and, mask_bit _ _ (by omega) hq, ix2_eq_valueIdx,
    bitcast_8_32_getLsbD_ix2 x h _ l _ (by omega) p (by show p.val = 4 * (p.val / 4) + _; omega), ← ix2_eq_valueIdx]
  have e : (8 * (p.val % 4) + q) % 8 = q := by omega
  have e15 : (15#8 : BitVec 8).getLsbD q = decide (q < 4) := by interval_cases q <;> rfl
  rw [e, e15]

/-- Shifting the words of a byte array right by four and masking gives each byte's high nibble. -/
theorem word_hi {R r n : Nat} (x : (⟨2, ![R, n]⟩ : Shape).Idx → BitVec 8)
    (h : (⟨2, ![R, n]⟩ : Shape).Bitcasts 8 ⟨2, ![r, n]⟩ 32) (h' : (⟨2, ![r, n]⟩ : Shape).Bitcasts 32 ⟨2, ![R, n]⟩ 8)
    (p : Fin R) (l : Fin n) (hr : R = 4 * r) :
    bitcast ⟨2, ![R, n]⟩ 8 (andi (shrsi (bitcast ⟨2, ![r, n]⟩ 32 x h) (broadcast ⟨2, ![r, n]⟩ 4#32))
        (broadcast ⟨2, ![r, n]⟩ 252645135#32)) h' (ix2 p l)
      = x (ix2 p l) >>> 4 := by
  apply BitVec.eq_of_getLsbD_eq
  intro q hq
  rw [bitcast_32_8_bit _ h' p l q hq ⟨p.val / 4, by omega⟩ rfl]
  show ((bitcast _ 32 x h (ix2 _ l)).sshiftRight 4 &&& 252645135#32).getLsbD _ = _
  rw [BitVec.getLsbD_and, mask_bit _ _ (by omega) hq, BitVec.getLsbD_ushiftRight, BitVec.getLsbD_sshiftRight]
  by_cases h4 : q < 4
  · rw [if_pos (by omega), ix2_eq_valueIdx,
      bitcast_8_32_getLsbD_ix2 x h _ l _ (by omega) p (by show p.val = 4 * (p.val / 4) + _; omega), ← ix2_eq_valueIdx]
    have e : (4 + (8 * (p.val % 4) + q)) % 8 = 4 + q := by omega
    rw [e]
    have : ¬ 32 ≤ 8 * (p.val % 4) + q := by omega
    simp [h4, this]
  · rw [BitVec.getLsbD_of_ge _ (4 + q) (by omega)]
    simp [h4]

/-- The low four bits of a byte, as a number. -/
theorem and15_real (b : BitVec 8) : (((b &&& 15#8).toInt : ℝ) : EReal) = nib b 0 := by
  have h : ∀ b : BitVec 8, (b &&& 15#8).toInt = ((b.toNat % 16 : Nat) : Int) := by decide +kernel
  rw [h, nib, if_pos rfl]; norm_cast

/-- The high four bits of a byte, as a number. -/
theorem shr4_real (b : BitVec 8) : (((b >>> 4).toInt : ℝ) : EReal) = nib b 1 := by
  have h : ∀ b : BitVec 8, (b >>> 4).toInt = ((b.toNat / 16 : Nat) : Int) := by decide +kernel
  rw [h, nib, if_neg (by decide)]; norm_cast

/-- The low nibbles of 256 rows of packed codes. -/
theorem lo256_apply (c : Vec Ideal S1x256x128 .i8) (t : Fin 256) (k : Fin 128) :
    lo256 c (ix2 t k) = nib (c (ix3 0 t k)) 0 := by
  rw [lo256, ← and15_real]
  show (((bitcast S256x128 8 _ _ (ix2 t k)).toInt : ℝ) : EReal) = _
  rw [word_lo _ _ _ t k rfl]
  pointwise []

/-- The high nibbles of 256 rows of packed codes. -/
theorem hi256_apply (c : Vec Ideal S1x256x128 .i8) (t : Fin 256) (k : Fin 128) :
    hi256 c (ix2 t k) = nib (c (ix3 0 t k)) 1 := by
  rw [hi256, ← shr4_real]
  show (((bitcast S256x128 8 _ _ (ix2 t k)).toInt : ℝ) : EReal) = _
  rw [word_hi _ _ _ t k rfl]
  pointwise []

/-- The low nibbles of 128 rows of packed codes. -/
theorem lo128_apply (c : Vec Ideal S1x128x128 .i8) (t : Fin 128) (k : Fin 128) :
    lo128 c (ix2 t k) = nib (c (ix3 0 t k)) 0 := by
  rw [lo128, ← and15_real]
  show (((bitcast S128x128 8 _ _ (ix2 t k)).toInt : ℝ) : EReal) = _
  rw [word_lo _ _ _ t k rfl]
  pointwise []

/-- The high nibbles of 128 rows of packed codes. -/
theorem hi128_apply (c : Vec Ideal S1x128x128 .i8) (t : Fin 128) (k : Fin 128) :
    hi128 c (ix2 t k) = nib (c (ix3 0 t k)) 1 := by
  rw [hi128, ← shr4_real]
  show (((bitcast S128x128 8 _ _ (ix2 t k)).toInt : ℝ) : EReal) = _
  rw [word_hi _ _ _ t k rfl]
  pointwise []

/-- One row of key scales repeated over its 32 tokens. -/
theorem kRow_apply (r : Vec Ideal S1x256 .f32) (t : Fin 32) (k : Fin 256) :
    kRow r (ix2 t k) = r (ix2 0 k) := by
  pointwise [kRow]

/-- One row of value scales repeated over its 16 lanes. -/
theorem vRow_apply (r : Vec Ideal S1x128 .f32) (t : Fin 16) (k : Fin 128) :
    vRow r (ix2 t k) = r (ix2 0 k) := by
  pointwise [vRow]

/-- Eight rows of key scales, each over its 32 tokens. -/
theorem kRows8_apply (r : Fin 8 → Vec Ideal S1x256 .f32) (t : Fin 256) (k : Fin 256) :
    kRows8 r (ix2 t k) = r ⟨t.val / 32, by omega⟩ (ix2 0 k) := by
  obtain ⟨a, b, ha⟩ : ∃ (a : Fin 8) (b : Fin 32), t.val = 32 * a.val + b.val :=
    ⟨⟨t.val / 32, by omega⟩, ⟨t.val % 32, by omega⟩, by show t.val = 32 * (t.val / 32) + t.val % 32; omega⟩
  have e : (⟨t.val / 32, by omega⟩ : Fin 8) = a := by apply Fin.ext; show _ / 32 = _; omega
  rw [e]
  pointwise [kRows8]
  obtain ⟨a, hlt⟩ := a
  dsimp only at ha
  interval_cases a <;> (repeat rw [dif_neg (by omega)]) <;> (repeat rw [dif_pos (by omega)]) <;> exact kRow_apply _ _ _

/-- Four rows of key scales, each over its 32 tokens. -/
theorem kRows4_apply (r : Fin 4 → Vec Ideal S1x256 .f32) (t : Fin 128) (k : Fin 256) :
    kRows4 r (ix2 t k) = r ⟨t.val / 32, by omega⟩ (ix2 0 k) := by
  obtain ⟨a, b, ha⟩ : ∃ (a : Fin 4) (b : Fin 32), t.val = 32 * a.val + b.val :=
    ⟨⟨t.val / 32, by omega⟩, ⟨t.val % 32, by omega⟩, by show t.val = 32 * (t.val / 32) + t.val % 32; omega⟩
  have e : (⟨t.val / 32, by omega⟩ : Fin 4) = a := by apply Fin.ext; show _ / 32 = _; omega
  rw [e]
  pointwise [kRows4]
  obtain ⟨a, hlt⟩ := a
  dsimp only at ha
  interval_cases a <;> (repeat rw [dif_neg (by omega)]) <;> (repeat rw [dif_pos (by omega)]) <;> exact kRow_apply _ _ _

/-- Eight groups' value scales, each over its 16 lanes, transposed to tokens by lanes. -/
theorem vBlock_apply (r : Fin 8 → Vec Ideal S1x128 .f32) (t k : Fin 128) :
    vBlock r (ix2 t k) = r ⟨k.val / 16, by omega⟩ (ix2 0 t) := by
  obtain ⟨a, b, ha⟩ : ∃ (a : Fin 8) (b : Fin 16), k.val = 16 * a.val + b.val :=
    ⟨⟨k.val / 16, by omega⟩, ⟨k.val % 16, by omega⟩, by show k.val = 16 * (k.val / 16) + k.val % 16; omega⟩
  have e : (⟨k.val / 16, by omega⟩ : Fin 8) = a := by apply Fin.ext; show _ / 16 = _; omega
  rw [e]
  pointwise [vBlock]
  obtain ⟨a, hlt⟩ := a
  dsimp only at ha
  interval_cases a <;> (repeat rw [dif_neg (by omega)]) <;> (repeat rw [dif_pos (by omega)]) <;> exact vRow_apply _ _ _

/-- Lane `l` of the first half reads position `l / 2`. -/
theorem half_lane (l : Nat) (hl : l < 128) :
    (Scalar.select (IntOp.cmpi CmpIPredicate.slt
        (IntOp.addi (IntOp.shrsi ArithUnit.vector (BitVec.ofNat 32 l) 1#32) 0#32) 0#32)
      (IntOp.addi (IntOp.addi (IntOp.shrsi ArithUnit.vector (BitVec.ofNat 32 l) 1#32) 0#32) 128#32)
      (IntOp.addi (IntOp.shrsi ArithUnit.vector (BitVec.ofNat 32 l) 1#32) 0#32)).toNat % 128 = l / 2 := by
  have h : ∀ l, l < 128 → (Scalar.select (IntOp.cmpi CmpIPredicate.slt
        (IntOp.addi (IntOp.shrsi ArithUnit.vector (BitVec.ofNat 32 l) 1#32) 0#32) 0#32)
      (IntOp.addi (IntOp.addi (IntOp.shrsi ArithUnit.vector (BitVec.ofNat 32 l) 1#32) 0#32) 128#32)
      (IntOp.addi (IntOp.shrsi ArithUnit.vector (BitVec.ofNat 32 l) 1#32) 0#32)).toNat % 128 = l / 2 := by
    decide +kernel
  exact h l hl

/-- Lane `l` of the second half reads position `64 + l / 2`. -/
theorem half_lane' (l : Nat) (hl : l < 128) :
    (Scalar.select (IntOp.cmpi CmpIPredicate.slt
        (IntOp.addi (IntOp.shrsi ArithUnit.vector (BitVec.ofNat 32 l) 1#32) 64#32) 0#32)
      (IntOp.addi (IntOp.addi (IntOp.shrsi ArithUnit.vector (BitVec.ofNat 32 l) 1#32) 64#32) 128#32)
      (IntOp.addi (IntOp.shrsi ArithUnit.vector (BitVec.ofNat 32 l) 1#32) 64#32)).toNat % 128 = 64 + l / 2 := by
  have h : ∀ l, l < 128 → (Scalar.select (IntOp.cmpi CmpIPredicate.slt
        (IntOp.addi (IntOp.shrsi ArithUnit.vector (BitVec.ofNat 32 l) 1#32) 64#32) 0#32)
      (IntOp.addi (IntOp.addi (IntOp.shrsi ArithUnit.vector (BitVec.ofNat 32 l) 1#32) 64#32) 128#32)
      (IntOp.addi (IntOp.shrsi ArithUnit.vector (BitVec.ofNat 32 l) 1#32) 64#32)).toNat % 128 = 64 + l / 2 := by
    decide +kernel
  exact h l hl

/-- Whether lane `l` is even, as a bit. -/
theorem even_lane (l : Nat) (hl : l < 128) :
    IntOp.cmpi CmpIPredicate.eq (IntOp.andi (BitVec.ofNat 32 l) 1#32) 0#32 = if l % 2 = 0 then 1#1 else 0#1 := by
  have h : ∀ l, l < 128 → IntOp.cmpi CmpIPredicate.eq (IntOp.andi (BitVec.ofNat 32 l) 1#32) 0#32 = if l % 2 = 0 then 1#1 else 0#1 := by
    decide +kernel
  exact h l hl

/-- Equal lanes give equal entries. -/
theorem lane_congr (a : FVec Ideal S16x256 .f32) (h : Fin 16) {x y : Nat} (hx : x < 256) (hy : y < 256) (e : x = y) :
    a (ix2 h ⟨x, hx⟩) = a (ix2 h ⟨y, hy⟩) := by subst e; rfl

/-- A choice between the even and the odd half, as one read. -/
theorem select_lane (a : FVec Ideal S16x256 .f32) (h : Fin 16) (e : BitVec 1) (l n m : Nat) (h0 : n < 256)
    (h1 : 128 + n < 256) (h2 : m < 256) (he : e = if l % 2 = 0 then 1#1 else 0#1) (hm : m = n + 128 * (l % 2)) :
    Scalar.select e (a (ix2 h ⟨n, h0⟩)) (a (ix2 h ⟨128 + n, h1⟩)) = a (ix2 h ⟨m, h2⟩) := by
  subst he
  by_cases hl : l % 2 = 0
  · rw [if_pos hl]
    exact lane_congr a h _ _ (by omega)
  · rw [if_neg hl]
    exact lane_congr a h _ _ (by omega)

/-- The two halves of the channels interleaved: channel `d` comes from position `d / 2` of half `d % 2`. -/
theorem interleave_apply (a : FVec Ideal S16x256 .f32) (h : Fin 16) (d : Fin 256) :
    interleave a (ix2 h d) = a (ix2 h ⟨d.val / 2 + 128 * (d.val % 2), by omega⟩) := by
  pointwise [interleave, evenLane, halfLane]
  split_ifs with hd
  · refine select_lane a h _ d.val _ _ _ _ _ (even_lane _ hd) ?_
    exact congrArg (· + 128 * (d.val % 2)) (half_lane _ hd).symm
  · refine select_lane a h _ (d.val - 128) _ _ _ _ _ (even_lane _ (by omega)) ?_
    refine Eq.trans ?_ (congrArg (· + 128 * ((d.val - 128) % 2)) (half_lane' (d.val - 128) (by omega)).symm)
    show d.val / 2 + 128 * (d.val % 2) = 64 + (d.val - 128) / 2 + 128 * ((d.val - 128) % 2)
    omega
  · rename_i hne
    exact absurd rfl hne

/-- A channel position as a packed position and a half. -/
abbrev lane (k : Fin 256) : Fin 128 := ⟨k.val % 128, by omega⟩

/-- The lane of a position in the low half. -/
theorem lane_lo (x : Fin 128) : lane ⟨x.val, by omega⟩ = x := Fin.ext (Nat.mod_eq_of_lt x.isLt)

/-- The lane of a position in the high half. -/
theorem lane_hi (x : Fin 128) : lane ⟨128 + x.val, by omega⟩ = x := Fin.ext (by
  show (128 + x.val) % 128 = x.val
  omega)

/-- A position below 128 is its own lane. -/
theorem lane_of_lt (d : Fin 256) (h : d.val < 128) : (⟨d.val, h⟩ : Fin 128) = lane d :=
  Fin.ext (Nat.mod_eq_of_lt h).symm

/-- A position from 128 on is its lane plus 128. -/
theorem lane_of_ge (d : Fin 256) (h : ¬ d.val < 128) : (⟨d.val - 128, by omega⟩ : Fin 128) = lane d := Fin.ext (by
  show d.val - 128 = d.val % 128
  omega)

/-- Two blocks of 128 tokens, one after the other. -/
theorem vBlocks_apply (a b : FVec Ideal S128x128 .bf16) (t : Fin 256) (k : Fin 128) :
    vBlocks a b (ix2 t k) = (if t.val < 128 then a else b) (ix2 ⟨t.val % 128, by omega⟩ k) := by
  pointwise [vBlocks]
  by_cases h : t.val < 128
  · rw [dif_pos h, if_pos h]; congr 1; apply congrArg (ix2 · k); apply Fin.ext; show t.val = t.val % 128; omega
  · rw [dif_neg h, if_neg h]; congr 1; apply congrArg (ix2 · k); apply Fin.ext; show t.val - 128 = t.val % 128; omega

/-- A sum over 256 is the sum of its two halves. -/
theorem sum_halves (f : Fin 256 → EReal) :
    ∑ k, f k = (∑ x : Fin 128, f ⟨x.val, by omega⟩) + ∑ x : Fin 128, f ⟨128 + x.val, by omega⟩ :=
  Fin.sum_univ_add (a := 128) (b := 128) f

/-- The scores of 256 cached keys: a sum over the positions of query times dequantised key. -/
theorem score256_apply (qs : FVec Ideal S16x256 .bf16) (c : Vec Ideal S1x256x128 .i8)
    (s z : Fin 8 → Vec Ideal S1x256 .f32) (h : Fin 16) (t : Fin 256) :
    score256 qs c s z (ix2 h t) = (∑ k : Fin 256, qs (ix2 h k) *
      (nib (c (ix3 0 t (lane k))) (k.val / 128) * s ⟨t.val / 32, by omega⟩ (ix2 0 k)
        + z ⟨t.val / 32, by omega⟩ (ix2 0 k))) * Ideal.ofBits .f32 0x3D800000#32 := by
  rw [sum_halves]
  pointwise [score256]
  congr 2
  · refine Finset.sum_congr rfl fun x _ => ?_
    rw [kRows8_apply, kRows8_apply, lo256_apply, lane_lo,
      show x.val / 128 = 0 by omega]
  · refine Finset.sum_congr rfl fun x _ => ?_
    rw [kRows8_apply, kRows8_apply, hi256_apply,
      lane_hi,
      show (128 + x.val) / 128 = 1 by omega]

/-- The scores of 128 cached keys: a sum over the positions of query times dequantised key. -/
theorem score128_apply (qs : FVec Ideal S16x256 .bf16) (c : Vec Ideal S1x128x128 .i8)
    (s z : Fin 4 → Vec Ideal S1x256 .f32) (h : Fin 16) (t : Fin 128) :
    score128 qs c s z (ix2 h t) = (∑ k : Fin 256, qs (ix2 h k) *
      (nib (c (ix3 0 t (lane k))) (k.val / 128) * s ⟨t.val / 32, by omega⟩ (ix2 0 k)
        + z ⟨t.val / 32, by omega⟩ (ix2 0 k))) * Ideal.ofBits .f32 0x3D800000#32 := by
  rw [sum_halves]
  pointwise [score128]
  congr 2
  · refine Finset.sum_congr rfl fun x _ => ?_
    rw [kRows4_apply, kRows4_apply, lo128_apply, lane_lo,
      show x.val / 128 = 0 by omega]
  · refine Finset.sum_congr rfl fun x _ => ?_
    rw [kRows4_apply, kRows4_apply, hi128_apply,
      lane_hi,
      show (128 + x.val) / 128 = 1 by omega]

/-- The weighted sum of 256 dequantised cached values. -/
theorem pv256_apply (p : FVec Ideal S16x256 .f32) (c : Vec Ideal S1x256x128 .i8) (s z : FVec Ideal S256x128 .bf16)
    (h : Fin 16) (d : Fin 256) :
    pv256 p c s z (ix2 h d) = ∑ t : Fin 256, p (ix2 h t) *
      (nib (c (ix3 0 t (lane d))) (d.val / 128) * s (ix2 t (lane d)) + z (ix2 t (lane d))) := by
  pointwise [pv256]
  refine Finset.sum_congr rfl fun t _ => ?_
  by_cases hd : d.val < 128
  · rw [dif_pos hd, lo256_apply, lane_of_lt d hd,
      show d.val / 128 = 0 by omega]
  · rw [dif_neg hd, hi256_apply, lane_of_ge d hd, show d.val / 128 = 1 by omega]

/-- The weighted sum of 128 dequantised cached values. -/
theorem pv128_apply (p : FVec Ideal S16x128 .f32) (c : Vec Ideal S1x128x128 .i8) (s z : FVec Ideal S128x128 .bf16)
    (h : Fin 16) (d : Fin 256) :
    pv128 p c s z (ix2 h d) = ∑ t : Fin 128, p (ix2 h t) *
      (nib (c (ix3 0 t (lane d))) (d.val / 128) * s (ix2 t (lane d)) + z (ix2 t (lane d))) := by
  pointwise [pv128]
  refine Finset.sum_congr rfl fun t _ => ?_
  by_cases hd : d.val < 128
  · rw [dif_pos hd, lo128_apply, lane_of_lt d hd,
      show d.val / 128 = 0 by omega]
  · rw [dif_neg hd, hi128_apply, lane_of_ge d hd, show d.val / 128 = 1 by omega]

/-- The bits of minus infinity are the bottom of the extended reals. -/
theorem negInf : Ideal.ofBits .f32 0xFF800000#32 = ⊥ := by simp [Ideal.ofBits, Ideal.ieee]

/-- The row maximum of 256 scores. -/
theorem max256_apply (s : FVec Ideal S16x256 .f32) (h : Fin 16) :
    max256 s (ix2 h 0) = Finset.univ.sup fun t : Fin 256 => s (ix2 h t) := by
  pointwise [max256]
  rw [negInf]
  rfl

/-- The row maximum of 128 scores. -/
theorem max128_apply (s : FVec Ideal S16x128 .f32) (h : Fin 16) :
    max128 s (ix2 h 0) = Finset.univ.sup fun t : Fin 128 => s (ix2 h t) := by
  pointwise [max128]
  rw [negInf]
  rfl

/-- The row sum of 256 weights. -/
theorem sum256_apply (s : FVec Ideal S16x256 .f32) (h : Fin 16) :
    sum256 s (ix2 h 0) = ∑ t : Fin 256, s (ix2 h t) := by
  pointwise [sum256]

/-- The row sum of 128 weights. -/
theorem sum128_apply (s : FVec Ideal S16x128 .f32) (h : Fin 16) :
    sum128 s (ix2 h 0) = ∑ t : Fin 128, s (ix2 h t) := by
  pointwise [sum128]

/-- The weights of 256 scores under the maximum. -/
theorem prob256_apply (s : FVec Ideal S16x256 .f32) (m : FVec Ideal S16x1 .f32) (h : Fin 16) (t : Fin 256) :
    prob256 s m (ix2 h t) = Ideal.exp (s (ix2 h t) - m (ix2 h 0)) := by
  pointwise [prob256]

/-- The weights of 128 scores under the maximum. -/
theorem prob128_apply (s : FVec Ideal S16x128 .f32) (m : FVec Ideal S16x1 .f32) (h : Fin 16) (t : Fin 128) :
    prob128 s m (ix2 h t) = Ideal.exp (s (ix2 h t) - m (ix2 h 0)) := by
  pointwise [prob128]

/-- The scores of the tail keys. -/
theorem scoreTail_apply (q : FVec Ideal S16x256 .bf16) (k : Vec Ideal S1x128x256 .bf16) (h : Fin 16) (t : Fin 128) :
    scoreTail q k (ix2 h t) = (∑ d : Fin 256, q (ix2 h d) * k (ix3 0 t d)) * Ideal.ofBits .f32 0x3D800000#32 := by
  pointwise [scoreTail]

/-- The score of the new key. -/
theorem scoreNew_apply (q : FVec Ideal S16x256 .bf16) (k : Vec Ideal S1x1x256 .bf16) (h : Fin 16) :
    scoreNew q k (ix2 h 0) = (∑ d : Fin 256, q (ix2 h d) * k (ix3 0 0 d)) * Ideal.ofBits .f32 0x3D800000#32 := by
  pointwise [scoreNew]

end Kivi
-- ==== Proof.KAttn.lean ====
module

public import proofs.«01_k».proof.Proof.KPoint
public import Idealize.ShloMosaic.Lib.Pointwise
public import Idealize.ShloMosaic.Lib.BitcastFour

/-! # One sequence's result is attention over its 2049 tokens -/

@[expose] public section

set_option maxRecDepth 16384

noncomputable section

namespace Kivi

open Idealize.ShloMosaic Idealize.ShloMosaic.TcCoe Idealize.SL.Sem Cert.KernelIdeal Cert.KernelIdeal.Gen

/-! ## Attention over 2049 tokens, and one sequence's result -/

/-- The channel at position `k` of the packed order: even channels first, then the odd ones. -/
def chan (k : Fin 256) : Fin 256 := ⟨2 * (k.val % 128) + k.val / 128, by omega⟩

/-- The position of channel `d` in the packed order. -/
def posn (d : Fin 256) : Fin 256 := ⟨d.val / 2 + 128 * (d.val % 2), by omega⟩

/-- The channel at a channel's position is that channel. -/
theorem chan_posn (d : Fin 256) : chan (posn d) = d := by
  apply Fin.ext
  show 2 * ((d.val / 2 + 128 * (d.val % 2)) % 128) + (d.val / 2 + 128 * (d.val % 2)) / 128 = d.val
  omega

/-- The position of the channel at a position is that position. -/
theorem posn_chan (k : Fin 256) : posn (chan k) = k := by
  apply Fin.ext
  show (2 * (k.val % 128) + k.val / 128) / 2 + 128 * ((2 * (k.val % 128) + k.val / 128) % 2) = k.val
  omega

/-- A sum over channels in the packed order is the sum over channels. -/
theorem sum_chan (f : Fin 256 → EReal) : ∑ k, f (chan k) = ∑ d, f d :=
  Fintype.sum_equiv ⟨chan, posn, posn_chan, chan_posn⟩ _ _ fun _ => rfl

section Attention

variable (q : Fin 256 → EReal) (K V : Fin 2049 → Fin 256 → EReal)

/-- The scaled score of token `t`. -/
def score (t : Fin 2049) : EReal := (∑ d, q d * K t d) * Ideal.ofBits .f32 0x3D800000#32

/-- The largest score, at least the floor. -/
def top : EReal := max (Finset.univ.sup fun t => score q K t) (Ideal.ofBits .f32 0xF149F2CA#32)

/-- The weight of token `t`. -/
def weight (t : Fin 2049) : EReal := Ideal.exp (score q K t - top q K)

/-- The weighted average of the values, channel `d`. -/
def attn (d : Fin 256) : EReal := Ideal.div (∑ t, weight q K t * V t d) (∑ t, weight q K t)

end Attention

/-- A sum over `n = a + b` terms, the first `a` and the other `b`. -/
theorem sum_split {a b n : Nat} (e : n = a + b) (f : Fin n → EReal) :
    ∑ i, f i = (∑ i : Fin a, f ⟨i.val, by omega⟩) + ∑ j : Fin b, f ⟨a + j.val, by omega⟩ := by
  subst e
  exact Fin.sum_univ_add f

/-- A sum over the 2049 tokens, tile by tile. -/
theorem sum_tokens (f : Fin 2049 → EReal) :
    ∑ t, f t = (∑ i : Fin 7, ∑ t : Fin 256, f ⟨256 * i.val + t.val, by omega⟩)
      + (∑ t : Fin 128, f ⟨1792 + t.val, by omega⟩) + (∑ t : Fin 128, f ⟨1920 + t.val, by omega⟩) + f 2048 := by
  rw [sum_split (a := 2048) (b := 1) (by norm_num) f, sum_split (a := 1920) (b := 128) (by norm_num),
    sum_split (a := 1792) (b := 128) (by norm_num), Fin.sum_univ_one,
    Fin.sum_univ_tiles 7 256 (by norm_num) fun i : Fin 1792 => f ⟨i.val, by omega⟩]
  refine congrArg₂ (· + ·) (congrArg₂ (· + ·) (congrArg₂ (· + ·) ?_ rfl) rfl) (congrArg f (Fin.ext rfl))
  refine Finset.sum_congr rfl fun i _ => Finset.sum_congr rfl fun t _ => congrArg f (Fin.ext ?_)
  exact congrArg (· + t.val) (Nat.mul_comm i.val 256)

/-- Every token lies in a tile, the last tile, the tail or is the new one. -/
theorem forall_tokens (P : Fin 2049 → Prop) : (∀ t, P t) ↔ (∀ (i : Fin 7) (t : Fin 256), P ⟨256 * i.val + t.val, by omega⟩)
    ∧ (∀ t : Fin 128, P ⟨1792 + t.val, by omega⟩) ∧ (∀ t : Fin 128, P ⟨1920 + t.val, by omega⟩) ∧ P 2048 := by
  refine ⟨fun h => ⟨fun _ _ => h _, fun _ => h _, fun _ => h _, h _⟩, fun ⟨h1, h2, h3, h4⟩ t => ?_⟩
  by_cases a : t.val < 1792
  · have := h1 ⟨t.val / 256, by omega⟩ ⟨t.val % 256, by omega⟩
    rwa [show (⟨256 * (t.val / 256) + t.val % 256, by omega⟩ : Fin 2049) = t from Fin.ext (by show _ + _ = _; omega)] at this
  by_cases b : t.val < 1920
  · have := h2 ⟨t.val - 1792, by omega⟩
    rwa [show (⟨1792 + (t.val - 1792), by omega⟩ : Fin 2049) = t from Fin.ext (by show _ + _ = _; omega)] at this
  by_cases c : t.val < 2048
  · have := h3 ⟨t.val - 1920, by omega⟩
    rwa [show (⟨1920 + (t.val - 1920), by omega⟩ : Fin 2049) = t from Fin.ext (by show _ + _ = _; omega)] at this
  · rwa [show (2048 : Fin 2049) = t from Fin.ext (by show 2048 = _; omega)] at h4

/-- A sum over seven, written out. -/
theorem sum7 (f : Fin 7 → EReal) : ∑ i, f i = f 0 + f 1 + f 2 + f 3 + f 4 + f 5 + f 6 := Fin.sum_univ_seven f

/-- A statement for each of seven, written out. -/
theorem forall7 (P : Fin 7 → Prop) : (∀ i, P i) ↔ P 0 ∧ P 1 ∧ P 2 ∧ P 3 ∧ P 4 ∧ P 5 ∧ P 6 := by
  simp [Fin.forall_fin_succ]

/-- The kernel's order of summation, rearranged. -/
theorem order (x a0 a1 a2 a3 a4 a5 a6 b c : EReal) : x + a0 + a1 + a2 + a3 + a4 + a5 + a6 + b + c
    = a0 + a1 + a2 + a3 + a4 + a5 + a6 + b + c + x := by
  simp only [add_comm, add_left_comm, add_assoc]

/-- The kernel's order of comparison, rearranged. -/
theorem order_and (x a0 a1 a2 a3 a4 a5 a6 b c : Prop) :
    (((((((((x ∧ a0) ∧ a1) ∧ a2) ∧ a3) ∧ a4) ∧ a5) ∧ a6) ∧ b) ∧ c)
      ↔ (a0 ∧ a1 ∧ a2 ∧ a3 ∧ a4 ∧ a5 ∧ a6) ∧ b ∧ c ∧ x := by
  simp only [and_comm, and_left_comm, and_assoc]

namespace Loads

/-- The loads `L` hold the queries `q`, keys `K` and values `V`. -/
structure Holds (L : Loads Ideal) (q : Fin 16 → Fin 256 → EReal) (K V : Fin 2049 → Fin 256 → EReal) : Prop where
  at_q (h d) : L.q (ix3 0 h d) = q h d
  at_qs (h k) : L.qs (ix2 h k) = q h (chan k)
  at_k256 (i : Fin 7) (t k : Fin 256) : nib (L.kc i (ix3 0 t (lane k))) (k.val / 128)
      * L.ks ⟨8 * i.val + t.val / 32, by omega⟩ (ix2 0 k) + L.kz ⟨8 * i.val + t.val / 32, by omega⟩ (ix2 0 k)
    = K ⟨256 * i.val + t.val, by omega⟩ (chan k)
  at_k128 (t : Fin 128) (k : Fin 256) : nib (L.kcL (ix3 0 t (lane k))) (k.val / 128)
      * L.ks ⟨56 + t.val / 32, by omega⟩ (ix2 0 k) + L.kz ⟨56 + t.val / 32, by omega⟩ (ix2 0 k)
    = K ⟨1792 + t.val, by omega⟩ (chan k)
  at_kt (t : Fin 128) (d) : L.kt (ix3 0 t d) = K ⟨1920 + t.val, by omega⟩ d
  at_kd (d) : L.kd (ix3 0 0 d) = K 2048 d
  at_v256 (i : Fin 7) (t k : Fin 256) : nib (L.vc i (ix3 0 t (lane k))) (k.val / 128)
      * L.vs ⟨2 * i.val + t.val / 128, by omega⟩ ⟨(lane k).val / 16, by omega⟩ (ix2 0 ⟨t.val % 128, by omega⟩)
      + L.vz ⟨2 * i.val + t.val / 128, by omega⟩ ⟨(lane k).val / 16, by omega⟩ (ix2 0 ⟨t.val % 128, by omega⟩)
    = V ⟨256 * i.val + t.val, by omega⟩ (chan k)
  at_v128 (t : Fin 128) (k : Fin 256) : nib (L.vcL (ix3 0 t (lane k))) (k.val / 128)
      * L.vs 14 ⟨(lane k).val / 16, by omega⟩ (ix2 0 t) + L.vz 14 ⟨(lane k).val / 16, by omega⟩ (ix2 0 t)
    = V ⟨1792 + t.val, by omega⟩ (chan k)
  at_vt (t : Fin 128) (d) : L.vt (ix3 0 t d) = V ⟨1920 + t.val, by omega⟩ d
  at_vd (d) : L.vd (ix3 0 0 d) = V 2048 d

variable {L : Loads Ideal} {q : Fin 16 → Fin 256 → EReal} {K V : Fin 2049 → Fin 256 → EReal} (H : L.Holds q K V)
include H

/-- The queries of head `h`. -/
theorem Holds.qq (h d) : L.qq (ix2 h d) = q h d := by
  rw [← H.at_q]; pointwise [Loads.qq]

/-- The scores of one tile of 256 cached keys. -/
theorem Holds.s256 (i : Fin 7) (h) (t : Fin 256) : L.s256 i (ix2 h t) = score (q h) K ⟨256 * i.val + t.val, by omega⟩ := by
  rw [Loads.s256, score256_apply, score, ← sum_chan fun d => q h d * K ⟨256 * i.val + t.val, by omega⟩ d]
  congr 1
  refine Finset.sum_congr rfl fun k _ => ?_
  rw [H.at_qs, ← H.at_k256]

/-- The scores of the last 128 cached keys. -/
theorem Holds.s128 (h) (t : Fin 128) : L.s128 (ix2 h t) = score (q h) K ⟨1792 + t.val, by omega⟩ := by
  rw [Loads.s128, score128_apply, score, ← sum_chan fun d => q h d * K ⟨1792 + t.val, by omega⟩ d]
  congr 1
  refine Finset.sum_congr rfl fun k _ => ?_
  rw [H.at_qs, ← H.at_k128]

/-- The scores of the tail keys. -/
theorem Holds.sTail (h) (t : Fin 128) : L.sTail (ix2 h t) = score (q h) K ⟨1920 + t.val, by omega⟩ := by
  rw [Loads.sTail, scoreTail_apply, score]
  congr 1
  refine Finset.sum_congr rfl fun k _ => ?_
  rw [H.qq, H.at_kt]

/-- The score of the new key. -/
theorem Holds.sNew (h) : L.sNew (ix2 h 0) = score (q h) K 2048 := by
  rw [Loads.sNew, scoreNew_apply, score]
  congr 1
  refine Finset.sum_congr rfl fun k _ => ?_
  rw [H.qq, H.at_kd]

/-- The maximum over all tiles is the maximum over all keys, with the floor. -/
theorem Holds.mx (h : Fin 16) : L.mx (ix2 h 0) = top (q h) K := by
  pointwise [Loads.mx]
  simp only [max256_apply, max128_apply, H.s256, H.s128, H.sTail, H.sNew, top]
  congr 1
  refine eq_of_forall_ge_iff fun a => ?_
  simp only [max_le_iff, Finset.sup_le_iff, Finset.mem_univ, true_imp_iff]
  rw [forall_tokens, forall7]
  exact order_and _ _ _ _ _ _ _ _ _ _

/-- The weights of one tile of 256 cached keys. -/
theorem Holds.p256 (i : Fin 7) (h) (t : Fin 256) : L.p256 i (ix2 h t) = weight (q h) K ⟨256 * i.val + t.val, by omega⟩ := by
  rw [Loads.p256, prob256_apply, H.s256, H.mx]; rfl

/-- The weights of the last 128 cached keys. -/
theorem Holds.p128 (h) (t : Fin 128) : L.p128 (ix2 h t) = weight (q h) K ⟨1792 + t.val, by omega⟩ := by
  rw [Loads.p128, prob128_apply, H.s128, H.mx]; rfl

/-- The weights of the tail keys. -/
theorem Holds.pTail (h) (t : Fin 128) : L.pTail (ix2 h t) = weight (q h) K ⟨1920 + t.val, by omega⟩ := by
  rw [Loads.pTail, prob128_apply, H.sTail, H.mx]; rfl

/-- The weight of the new key. -/
theorem Holds.pNew (h) : L.pNew (ix2 h 0) = weight (q h) K 2048 := by
  pointwise [Loads.pNew]
  rw [H.sNew, H.mx]; rfl

/-- The denominator is the sum of all the weights. -/
theorem Holds.den (h : Fin 16) : L.den (ix2 h 0) = ∑ t, weight (q h) K t := by
  pointwise [Loads.den]
  simp only [sum256_apply, sum128_apply, H.p256, H.p128, H.pTail, H.pNew]
  rw [sum_tokens, sum7, order]

/-- One tile of 256 cached values, weighted and summed, at position `k`. -/
theorem Holds.o256 (i : Fin 7) (h : Fin 16) (k : Fin 256) : L.o256 i (ix2 h k)
    = ∑ t : Fin 256, weight (q h) K ⟨256 * i.val + t.val, by omega⟩ * V ⟨256 * i.val + t.val, by omega⟩ (chan k) := by
  rw [Loads.o256, pv256_apply]
  refine Finset.sum_congr rfl fun t _ => ?_
  rw [H.p256, ← H.at_v256, vBlocks_apply, vBlocks_apply]
  have pick : ∀ w : Fin 15 → Fin 8 → Vec Ideal S1x128 .f32,
      (if t.val < 128 then vBlock (w ⟨2 * i.val, by omega⟩) else vBlock (w ⟨2 * i.val + 1, by omega⟩))
        = vBlock (w ⟨2 * i.val + t.val / 128, by omega⟩) := fun w => by
    split
    · exact congrArg (fun n => vBlock (w n)) (Fin.ext (by show 2 * i.val = 2 * i.val + t.val / 128; omega))
    · exact congrArg (fun n => vBlock (w n)) (Fin.ext (by show 2 * i.val + 1 = 2 * i.val + t.val / 128; omega))
  rw [pick, pick, vBlock_apply, vBlock_apply]

/-- The last 128 cached values, weighted and summed, at position `k`. -/
theorem Holds.o128 (h : Fin 16) (k : Fin 256) : L.o128 (ix2 h k)
    = ∑ t : Fin 128, weight (q h) K ⟨1792 + t.val, by omega⟩ * V ⟨1792 + t.val, by omega⟩ (chan k) := by
  rw [Loads.o128, pv128_apply]
  refine Finset.sum_congr rfl fun t _ => ?_
  rw [H.p128, ← H.at_v128, vBlock_apply, vBlock_apply]

/-- All the cached values, weighted and summed, at the position of channel `d`. -/
theorem Holds.oq (h : Fin 16) (d : Fin 256) : L.oq (ix2 h (posn d))
    = (∑ i : Fin 7, ∑ t : Fin 256, weight (q h) K ⟨256 * i.val + t.val, by omega⟩ * V ⟨256 * i.val + t.val, by omega⟩ d)
      + ∑ t : Fin 128, weight (q h) K ⟨1792 + t.val, by omega⟩ * V ⟨1792 + t.val, by omega⟩ d := by
  pointwise [Loads.oq]
  simp only [H.o256, H.o128, chan_posn]
  rw [sum7]

/-- The numerator is the weighted sum of all the values. -/
theorem Holds.num (h : Fin 16) (d : Fin 256) : L.num (ix2 h d) = ∑ t, weight (q h) K t * V t d := by
  pointwise [Loads.num]
  rw [interleave_apply, show (⟨d.val / 2 + 128 * (d.val % 2), by omega⟩ : Fin 256) = posn d from rfl, H.oq, sum_tokens]
  simp only [H.pTail, H.at_vt, H.pNew, H.at_vd]

/-- One sequence's result is attention over its 2049 tokens. -/
theorem Holds.out (h : Fin 16) (d : Fin 256) : L.out (ix3 0 h d) = attn (q h) K V d := by
  pointwise [Loads.out]
  rw [H.num, H.den]; rfl

end Loads

end Kivi
-- ==== Proof.KLoads.lean ====
module

public import proofs.«01_k».proof.Proof.KAttn
public import Idealize.ShloMosaic.Lib.Pipeline.ValueKit

/-! # What one sequence loads, in terms of the windows of its grid point -/

@[expose] public section

set_option maxRecDepth 16384

noncomputable section

namespace Kivi

open Idealize.ShloMosaic Idealize.ShloMosaic.TcCoe Idealize.SL.Sem Cert.KernelIdeal Cert.KernelIdeal.Gen

/-- A load from a buffer whose contents are `X` reads `X` at the loaded box's indices. -/
theorem readAt_whole {sp : Space} {s : Shape} {e : EltTy} (m : Memref sig .tc sp s e) (hm : m.IsWhole)
    (X : s.Idx → Elt Ideal e) (r : LoadRect s) (y : r.shape.Idx) :
    m.view.readAt (Elt Ideal) r (hm.unread X) y = X (r.idx y) := by
  rw [View.readAt_apply, hm.read_unread]

section Slabs

variable {n m : Nat} {e : EltTy}

/-- The bounds of slab `k` of four. -/
abbrev SlabIn (n m k : Nat) : Prop :=
  ∀ a, (![k, 0, 0] : Fin 3 → Nat) a + (![1, n, m] : Fin 3 → Nat) a ≤ (⟨3, ![4, n, m]⟩ : Shape).size a

/-- Slab `k` of four. -/
abbrev slab (n m k : Nat) (hk : SlabIn n m k) : Rect ⟨3, ![4, n, m]⟩ :=
  Rect.unit (s := ⟨3, ![4, n, m]⟩) ![k, 0, 0] ![1, n, m] hk

/-- Entry `(i, j)` of slab `b` is entry `(b, i, j)` of the buffer. -/
theorem slab_emb (b : Fin 4) (hk : SlabIn n m b.val) (i : Fin n) (j : Fin m) :
    (slab n m b.val hk).emb (ix3 (0 : Fin 1) i j) = ix3 b i j := by
  funext a
  apply Fin.ext
  match a with
  | ⟨0, _⟩ => show b.val + 1 * 0 = b.val; omega
  | ⟨1, _⟩ => show 0 + 1 * i.val = i.val; omega
  | ⟨2, _⟩ => show 0 + 1 * j.val = j.val; omega

/-- After a store of slab `b`, a read in it gives the stored value. -/
theorem slab_on (b : Fin 4) (hk : SlabIn n m b.val) (u : (slab n m b.val hk).shape.Idx → Elt Ideal e)
    (L : List (View.Piece (Elt Ideal) ⟨3, ![4, n, m]⟩ e)) (i : Fin n) (j : Fin m) :
    View.canon (⟨slab n m b.val hk, u⟩ :: L) (ix3 b i j) = u (ix3 (0 : Fin 1) i j) := by
  rw [← slab_emb b hk i j]
  exact View.canon_cons_emb (slab n m b.val hk) u L _

/-- After a store of another slab, a read of slab `b` gives what was there before. -/
theorem slab_off (k : Nat) (hk : SlabIn n m k) (u : (slab n m k hk).shape.Idx → Elt Ideal e)
    (L : List (View.Piece (Elt Ideal) ⟨3, ![4, n, m]⟩ e)) (b : Fin 4) (hne : k ≠ b.val) (i : Fin n) (j : Fin m) :
    View.canon (⟨slab n m k hk, u⟩ :: L) (ix3 b i j) = View.canon L (ix3 b i j) := by
  refine View.canon_cons_of_not_mem _ _ fun hm => ?_
  have := (Rect.mem_set_unit (s := ⟨3, ![4, n, m]⟩) (off := ![k, 0, 0]) (size := ![1, n, m]) (inb := hk)).mp hm 0
  have h1 : k ≤ b.val := this.1
  have h2 : b.val < k + 1 := this.2
  omega

/-- Four slabs written one after the other, read back. -/
theorem canon_slabs (h3 : SlabIn n m 3) (h2 : SlabIn n m 2) (h1 : SlabIn n m 1) (h0 : SlabIn n m 0)
    (w3 : (slab n m 3 h3).shape.Idx → Elt Ideal e) (w2 : (slab n m 2 h2).shape.Idx → Elt Ideal e)
    (w1 : (slab n m 1 h1).shape.Idx → Elt Ideal e) (w0 : (slab n m 0 h0).shape.Idx → Elt Ideal e)
    (f : Fin 4 → Fin n → Fin m → Elt Ideal e)
    (e3 : ∀ i j, w3 (ix3 (0 : Fin 1) i j) = f 3 i j) (e2 : ∀ i j, w2 (ix3 (0 : Fin 1) i j) = f 2 i j)
    (e1 : ∀ i j, w1 (ix3 (0 : Fin 1) i j) = f 1 i j) (e0 : ∀ i j, w0 (ix3 (0 : Fin 1) i j) = f 0 i j)
    (b : Fin 4) (i : Fin n) (j : Fin m) :
    View.canon (Val := Elt Ideal) (s := ⟨3, ![4, n, m]⟩) (e := e)
      [⟨slab n m 3 h3, w3⟩, ⟨slab n m 2 h2, w2⟩, ⟨slab n m 1 h1, w1⟩, ⟨slab n m 0 h0, w0⟩] (ix3 b i j) = f b i j := by
  match b with
  | 3 => exact (slab_on 3 h3 w3 _ i j).trans (e3 i j)
  | 2 => exact (slab_off 3 h3 w3 _ 2 (by decide) i j).trans ((slab_on 2 h2 w2 _ i j).trans (e2 i j))
  | 1 => exact (slab_off 3 h3 w3 _ 1 (by decide) i j).trans ((slab_off 2 h2 w2 _ 1 (by decide) i j).trans
      ((slab_on 1 h1 w1 _ i j).trans (e1 i j)))
  | 0 => exact (slab_off 3 h3 w3 _ 0 (by decide) i j).trans ((slab_off 2 h2 w2 _ 0 (by decide) i j).trans
      ((slab_off 1 h1 w1 _ 0 (by decide) i j).trans ((slab_on 0 h0 w0 _ i j).trans (e0 i j))))

end Slabs

/-- Summing against a column of the permutation picks one term. -/
theorem sum_pick (f g : Fin 256 → EReal) (c : Fin 256) (hg : ∀ i, g i = if i = c then 1 else 0) :
    ∑ i, f i * g i = f c := by
  rw [Finset.sum_eq_single c]
  · rw [hg, if_pos rfl, mul_one]
  · intro i _ hi
    rw [hg, if_neg hi, mul_zero]
  · intro h
    exact absurd (Finset.mem_univ c) h

section Win

variable (x0 : Vec Ideal S4x16x256 .bf16) (x1 : Vec Ideal S4x1920x128 .i8) (x2 x3 : Vec Ideal S480x128 .f32)
  (x4 : Vec Ideal S4x1920x128 .i8) (x5 x6 : Vec Ideal S4x8x1920 .f32) (x7 x8 : Vec Ideal S4x128x256 .bf16)
  (x9 x10 : Vec Ideal S4x1x256 .bf16) (x11 : Vec Ideal S256x256 .bf16) (b : Fin 4)

/-- Row `r`, channel `d` of a key scale (or zero) window: 256 channels in two rows of 128. -/
def krow (x : Vec Ideal S480x128 .f32) (b : Fin 4) (r : Fin 60) (d : Fin 256) : EReal :=
  x (ix2 ⟨2 * (60 * b.val + r.val) + d.val / 128, by omega⟩ ⟨d.val % 128, by omega⟩)

/-- The keys of sequence `b`: dequantised codes, tail, new key. -/
def winK (t : Fin 2049) (d : Fin 256) : EReal :=
  if h : t.val < 1920 then
    nib (x1 (ix3 b ⟨t.val, h⟩ ⟨d.val / 2, by omega⟩)) (d.val % 2) * krow x2 b ⟨t.val / 32, by omega⟩ d
      + krow x3 b ⟨t.val / 32, by omega⟩ d
  else if h' : t.val < 2048 then x7 (ix3 b ⟨t.val - 1920, by omega⟩ d)
  else x9 (ix3 b 0 d)

/-- The values of sequence `b`: dequantised codes, tail, new value. -/
def winV (t : Fin 2049) (d : Fin 256) : EReal :=
  if h : t.val < 1920 then
    nib (x4 (ix3 b ⟨t.val, h⟩ ⟨d.val / 2, by omega⟩)) (d.val % 2) * x5 (ix3 b ⟨d.val / 32, by omega⟩ ⟨t.val, h⟩)
      + x6 (ix3 b ⟨d.val / 32, by omega⟩ ⟨t.val, h⟩)
  else if h' : t.val < 2048 then x8 (ix3 b ⟨t.val - 1920, by omega⟩ d)
  else x10 (ix3 b 0 d)

end Win

variable (c : Dev nD)
  (arg1 : Memref sig .tc .vmem S4x16x256 .bf16) (harg1 : arg1.IsWhole)
  (arg2 : Memref sig .tc .vmem S4x1920x128 .i8) (harg2 : arg2.IsWhole)
  (arg3 : Memref sig .tc .vmem S480x128 .f32) (harg3 : arg3.IsWhole)
  (arg4 : Memref sig .tc .vmem S480x128 .f32) (harg4 : arg4.IsWhole)
  (arg5 : Memref sig .tc .vmem S4x1920x128 .i8) (harg5 : arg5.IsWhole)
  (arg6 : Memref sig .tc .vmem S4x8x1920 .f32) (harg6 : arg6.IsWhole)
  (arg7 : Memref sig .tc .vmem S4x8x1920 .f32) (harg7 : arg7.IsWhole)
  (arg8 : Memref sig .tc .vmem S4x128x256 .bf16) (harg8 : arg8.IsWhole)
  (arg9 : Memref sig .tc .vmem S4x128x256 .bf16) (harg9 : arg9.IsWhole)
  (arg10 : Memref sig .tc .vmem S4x1x256 .bf16) (harg10 : arg10.IsWhole)
  (arg11 : Memref sig .tc .vmem S4x1x256 .bf16) (harg11 : arg11.IsWhole)
  (arg12 : Memref sig .tc .vmem S256x256 .bf16) (harg12 : arg12.IsWhole)
  (arg14 : Memref sig .tc .vmem S240x256 .f32)
  (arg15 : Memref sig .tc .vmem S240x256 .f32)
  (arg16 : Memref sig .tc .vmem S4x8x1920 .f32)
  (arg17 : Memref sig .tc .vmem S4x8x1920 .f32)
  (x0 : Vec Ideal S4x16x256 .bf16)
  (x1 : Vec Ideal S4x1920x128 .i8)
  (x2 : Vec Ideal S480x128 .f32)
  (x3 : Vec Ideal S480x128 .f32)
  (x4 : Vec Ideal S4x1920x128 .i8)
  (x5 : Vec Ideal S4x8x1920 .f32)
  (x6 : Vec Ideal S4x8x1920 .f32)
  (x7 : Vec Ideal S4x128x256 .bf16)
  (x8 : Vec Ideal S4x128x256 .bf16)
  (x9 : Vec Ideal S4x1x256 .bf16)
  (x10 : Vec Ideal S4x1x256 .bf16)
  (x11 : Vec Ideal S256x256 .bf16)

/-- The queries times the permutation matrix are the queries at the permuted channels. -/
theorem pay3_apply (p : Vec Ideal S256x256 .bf16) (x : Vec Ideal S4x16x256 .bf16) (b : Fin 4) (h : Fin 16) (k : Fin 256)
    (hp : ∀ i k, p (ix2 i k) = if i = chan k then 1 else 0) :
    extractStridedSlice S16x256 ![16 * b.val, 0] (qsAll p x) (slices_qs b) (ix2 h k) = x (ix3 b h (chan k)) := by
  rw [← sum_pick (fun i => x (ix3 b h i)) (fun i => p (ix2 i k)) (chan k) fun i => hp i k]
  pointwise [qsAll, k1_pay3, k1_pay2]

/-- The key scales times the permutation matrix are the scales at the permuted channels. -/
theorem pay4_apply (p : Vec Ideal S256x256 .bf16) (x y : Vec Ideal S240x128 .f32) (r : Fin 240) (k : Fin 256)
    (hp : ∀ i k, p (ix2 i k) = if i = chan k then 1 else 0) :
    k1_pay4 p x y (ix2 r k) = (if (chan k).val < 128 then x else y) (ix2 r (lane (chan k))) := by
  have e := sum_pick (fun i => (if i.val < 128 then x else y) (ix2 r (lane i))) (fun i => p (ix2 i k)) (chan k) fun i => hp i k
  rw [← e, sum_halves]
  pointwise [k1_pay4, k1_pay2]
  simp only [lane_lo, lane_hi]

/-- One batch row of the value scales is stored unchanged. -/
theorem pay14_apply (v : Vec Ideal S1x8x1920 .f32) (g : Fin 8) (t : Fin 1920) :
    k1_pay14 v (ix3 0 g t) = v (ix3 0 g t) := by
  pointwise [k1_pay14]

/-- One batch row of the value scales is stored unchanged. -/
theorem pay9_apply (v : Vec Ideal S1x8x1920 .f32) (g : Fin 8) (t : Fin 1920) :
    k1_pay9 v (ix3 0 g t) = v (ix3 0 g t) := by
  pointwise [k1_pay9]

/-- One batch row of the value scales is stored unchanged. -/
theorem pay12_apply (v : Vec Ideal S1x8x1920 .f32) (g : Fin 8) (t : Fin 1920) :
    k1_pay12 (k1_pay11 v) (ix3 0 g t) = v (ix3 0 g t) := by
  pointwise [k1_pay12, k1_pay11]

/-- One batch row of the value scales is stored unchanged. -/
theorem pay7_apply (v : Vec Ideal S1x8x1920 .f32) (g : Fin 8) (t : Fin 1920) :
    k1_pay7 (k1_pay6 v) (ix3 0 g t) = v (ix3 0 g t) := by
  pointwise [k1_pay7, k1_pay6]

/-- The key zeros times the permutation matrix are the zeros at the permuted channels. -/
theorem pay5_apply (p : Vec Ideal S256x256 .bf16) (x y : Vec Ideal S240x128 .f32) (r : Fin 240) (k : Fin 256)
    (hp : ∀ i k, p (ix2 i k) = if i = chan k then 1 else 0) :
    k1_pay5 p x y (ix2 r k) = (if (chan k).val < 128 then x else y) (ix2 r (lane (chan k))) :=
  pay4_apply p x y r k hp

/-- One batch row of the value zeros is stored unchanged. -/
theorem pay15_apply (v : Vec Ideal S1x8x1920 .f32) (g : Fin 8) (t : Fin 1920) :
    k1_pay15 v (ix3 0 g t) = v (ix3 0 g t) := by
  pointwise [k1_pay15]

/-- One batch row of the value zeros is stored unchanged. -/
theorem pay13_apply (v : Vec Ideal S1x8x1920 .f32) (g : Fin 8) (t : Fin 1920) :
    k1_pay13 v (ix3 0 g t) = v (ix3 0 g t) := by
  pointwise [k1_pay13]

/-- One batch row of the value zeros is stored unchanged. -/
theorem pay10_apply (v : Vec Ideal S1x8x1920 .f32) (g : Fin 8) (t : Fin 1920) :
    k1_pay10 v (ix3 0 g t) = v (ix3 0 g t) := by
  pointwise [k1_pay10]

/-- One batch row of the value zeros is stored unchanged. -/
theorem pay8_apply (v : Vec Ideal S1x8x1920 .f32) (g : Fin 8) (t : Fin 1920) :
    k1_pay8 v (ix3 0 g t) = v (ix3 0 g t) := by
  pointwise [k1_pay8]

/-- A read of the scratch buffer of the key scales. -/
theorem HS0_apply (hp : ∀ i k, x11 (ix2 i k) = if i = chan k then 1 else 0) (b : Fin 4) (r : Fin 60) (k : Fin 256) :
    arg14.view.readCov (kernelRun1_A.sl.HS0_1 c arg3 harg3 arg12 harg12 x2 x11)
      (Rect.unit (s := S240x256) ![60 * b.val + r.val, 0] S1x256.size (inb_krow b r)).toLoadRect (ix2 0 k)
      = krow x2 b r (chan k) := by
  rw [View.readCov_eq_canon']
  unfold kernelRun1_A.sl.HS0_1
  have hi : (Rect.unit (s := S240x256) ![60 * b.val + r.val, 0] S1x256.size (inb_krow b r)).idx (ix2 0 k)
      = ix2 ⟨60 * b.val + r.val, by omega⟩ k := by
    funext a
    apply Fin.ext
    match a with
    | ⟨0, _⟩ => show 60 * b.val + r.val + 1 * 0 = 60 * b.val + r.val; omega
    | ⟨1, _⟩ => show 0 + 1 * k.val = k.val; omega
  show View.canon _ ((Rect.unit (s := S240x256) ![60 * b.val + r.val, 0] S1x256.size (inb_krow b r)).idx (ix2 0 k)) = _
  rw [hi, View.canon_unit_zero (by funext a; fin_cases a <;> rfl)]
  rw [pay4_apply]
  · unfold krow
    split
    · rw [readAt_whole]
      congr 1
      funext a
      apply Fin.ext
      match a with
      | ⟨0, _⟩ => show 0 + 2 * (60 * b.val + r.val) = 2 * (60 * b.val + r.val) + (chan k).val / 128; omega
      | ⟨1, _⟩ => show 0 + 1 * ((chan k).val % 128) = (chan k).val % 128; omega
    · rw [readAt_whole]
      congr 1
      funext a
      apply Fin.ext
      match a with
      | ⟨0, _⟩ => show 1 + 2 * (60 * b.val + r.val) = 2 * (60 * b.val + r.val) + (chan k).val / 128; omega
      | ⟨1, _⟩ => show 0 + 1 * ((chan k).val % 128) = (chan k).val % 128; omega
  · intro i k
    rw [readAt_whole, ← hp]
    congr 1
    funext a
    apply Fin.ext
    match a with
    | ⟨0, _⟩ => show 0 + 1 * i.val = i.val; omega
    | ⟨1, _⟩ => show 0 + 1 * k.val = k.val; omega

/-- A read of the scratch buffer of the key zeros. -/
theorem HS1_apply (hp : ∀ i k, x11 (ix2 i k) = if i = chan k then 1 else 0) (b : Fin 4) (r : Fin 60) (k : Fin 256) :
    arg15.view.readCov (kernelRun1_A.sl.HS1_1 c arg4 harg4 arg12 harg12 x3 x11)
      (Rect.unit (s := S240x256) ![60 * b.val + r.val, 0] S1x256.size (inb_krow b r)).toLoadRect (ix2 0 k)
      = krow x3 b r (chan k) := by
  rw [View.readCov_eq_canon']
  unfold kernelRun1_A.sl.HS1_1
  have hi : (Rect.unit (s := S240x256) ![60 * b.val + r.val, 0] S1x256.size (inb_krow b r)).idx (ix2 0 k)
      = ix2 ⟨60 * b.val + r.val, by omega⟩ k := by
    funext a
    apply Fin.ext
    match a with
    | ⟨0, _⟩ => show 60 * b.val + r.val + 1 * 0 = 60 * b.val + r.val; omega
    | ⟨1, _⟩ => show 0 + 1 * k.val = k.val; omega
  show View.canon _ ((Rect.unit (s := S240x256) ![60 * b.val + r.val, 0] S1x256.size (inb_krow b r)).idx (ix2 0 k)) = _
  rw [hi, View.canon_unit_zero (by funext a; fin_cases a <;> rfl)]
  rw [pay5_apply]
  · unfold krow
    split
    · rw [readAt_whole]
      congr 1
      funext a
      apply Fin.ext
      match a with
      | ⟨0, _⟩ => show 0 + 2 * (60 * b.val + r.val) = 2 * (60 * b.val + r.val) + (chan k).val / 128; omega
      | ⟨1, _⟩ => show 0 + 1 * ((chan k).val % 128) = (chan k).val % 128; omega
    · rw [readAt_whole]
      congr 1
      funext a
      apply Fin.ext
      match a with
      | ⟨0, _⟩ => show 1 + 2 * (60 * b.val + r.val) = 2 * (60 * b.val + r.val) + (chan k).val / 128; omega
      | ⟨1, _⟩ => show 0 + 1 * ((chan k).val % 128) = (chan k).val % 128; omega
  · intro i k
    rw [readAt_whole, ← hp]
    congr 1
    funext a
    apply Fin.ext
    match a with
    | ⟨0, _⟩ => show 0 + 1 * i.val = i.val; omega
    | ⟨1, _⟩ => show 0 + 1 * k.val = k.val; omega

/-- A read of the scratch buffer of the value scales. -/
theorem HS2_apply (b : Fin 4) (j : Fin 15) (g : Fin 8) (t : Fin 128) :
    vrow arg16 (kernelRun1_A.sl.HS2_4 c arg6 harg6 x5) b j g (ix2 0 t)
      = x5 (ix3 b g ⟨128 * j.val + t.val, by omega⟩) := by
  unfold vrow
  rw [View.readCov_eq_canon']
  unfold kernelRun1_A.sl.HS2_4
  have hx : Shape.reshapeEquiv (((Rect.unit (s := S8x1920) ![g.val, 128 * j.val] S1x128.size
      (inb_vrow j g)).toLoadRect).numel_consLift ![1, 8, 1920] rfl (by decide)) (ix2 0 t) = Fin.cons ⟨0, Nat.one_pos⟩ (ix2 0 t) :=
    Shape.reshapeEquiv_cons_one _ _
  have hi : ((Rect.unit (s := S4x8x1920) ![b.val, 0, 0] S1x8x1920.size (inb_vslab b)).withinL
      ((Rect.unit (s := S8x1920) ![g.val, 128 * j.val] S1x128.size (inb_vrow j g)).toLoadRect.consLift
        ![1, 8, 1920] rfl (by decide)) (fun _ => rfl)).idx (Fin.cons ⟨0, Nat.one_pos⟩ (ix2 (0 : Fin 1) t))
      = ix3 b g ⟨128 * j.val + t.val, by omega⟩ := by
    funext a
    apply Fin.ext
    match a with
    | ⟨0, _⟩ => show b.val + 0 + 1 * 0 = b.val; omega
    | ⟨1, _⟩ => show 0 + g.val + 1 * 0 = g.val; omega
    | ⟨2, _⟩ => show 0 + 128 * j.val + 1 * t.val = 128 * j.val + t.val; omega
  refine (congrArg (View.canon _) ((congrArg _ hx).trans hi)).trans ?_
  have ld : ∀ (k : Fin 4) (hk : SlabIn 8 1920 k.val) (g : Fin 8) (t : Fin 1920),
      arg6.view.readAt (Elt Ideal) (slab 8 1920 k.val hk).toLoadRect (harg6.unread x5) (ix3 (0 : Fin 1) g t) = x5 (ix3 k g t) :=
    fun k hk g t => by
      rw [readAt_whole]
      exact congrArg x5 (slab_emb k hk g t)
  refine canon_slabs (n := 8) (m := 1920) (e := .f32) _ _ _ _ _ _ _ _ (fun b i j => x5 (ix3 b i j)) ?_ ?_ ?_ ?_ b g _
  · intro g t
    exact (pay14_apply _ g t).trans (ld 3 _ g t)
  · intro g t
    exact (pay12_apply _ g t).trans (ld 2 _ g t)
  · intro g t
    exact (pay9_apply _ g t).trans (ld 1 _ g t)
  · intro g t
    exact (pay7_apply _ g t).trans (ld 0 _ g t)

/-- A read of the scratch buffer of the value zeros. -/
theorem HS3_apply (b : Fin 4) (j : Fin 15) (g : Fin 8) (t : Fin 128) :
    vrow arg17 (kernelRun1_A.sl.HS3_4 c arg7 harg7 x6) b j g (ix2 0 t)
      = x6 (ix3 b g ⟨128 * j.val + t.val, by omega⟩) := by
  unfold vrow
  rw [View.readCov_eq_canon']
  unfold kernelRun1_A.sl.HS3_4
  have hx : Shape.reshapeEquiv (((Rect.unit (s := S8x1920) ![g.val, 128 * j.val] S1x128.size
      (inb_vrow j g)).toLoadRect).numel_consLift ![1, 8, 1920] rfl (by decide)) (ix2 0 t) = Fin.cons ⟨0, Nat.one_pos⟩ (ix2 0 t) :=
    Shape.reshapeEquiv_cons_one _ _
  have hi : ((Rect.unit (s := S4x8x1920) ![b.val, 0, 0] S1x8x1920.size (inb_vslab b)).withinL
      ((Rect.unit (s := S8x1920) ![g.val, 128 * j.val] S1x128.size (inb_vrow j g)).toLoadRect.consLift
        ![1, 8, 1920] rfl (by decide)) (fun _ => rfl)).idx (Fin.cons ⟨0, Nat.one_pos⟩ (ix2 (0 : Fin 1) t))
      = ix3 b g ⟨128 * j.val + t.val, by omega⟩ := by
    funext a
    apply Fin.ext
    match a with
    | ⟨0, _⟩ => show b.val + 0 + 1 * 0 = b.val; omega
    | ⟨1, _⟩ => show 0 + g.val + 1 * 0 = g.val; omega
    | ⟨2, _⟩ => show 0 + 128 * j.val + 1 * t.val = 128 * j.val + t.val; omega
  refine (congrArg (View.canon _) ((congrArg _ hx).trans hi)).trans ?_
  have ld : ∀ (k : Fin 4) (hk : SlabIn 8 1920 k.val) (g : Fin 8) (t : Fin 1920),
      arg7.view.readAt (Elt Ideal) (slab 8 1920 k.val hk).toLoadRect (harg7.unread x6) (ix3 (0 : Fin 1) g t) = x6 (ix3 k g t) :=
    fun k hk g t => by
      rw [readAt_whole]
      exact congrArg x6 (slab_emb k hk g t)
  refine canon_slabs (n := 8) (m := 1920) (e := .f32) _ _ _ _ _ _ _ _ (fun b i j => x6 (ix3 b i j)) ?_ ?_ ?_ ?_ b g _
  · intro g t
    exact (pay15_apply _ g t).trans (ld 3 _ g t)
  · intro g t
    exact (pay13_apply _ g t).trans (ld 2 _ g t)
  · intro g t
    exact (pay10_apply _ g t).trans (ld 1 _ g t)
  · intro g t
    exact (pay8_apply _ g t).trans (ld 0 _ g t)

/-- A dequantised cached key at position `k`, from its code, scale and zero. -/
theorem winK_codes (b : Fin 4) (t : Fin 1920) (k : Fin 256) (hr : t.val / 32 < 60) :
    nib (x1 (ix3 b t (lane k))) (k.val / 128) * krow x2 b ⟨t.val / 32, hr⟩ (chan k) + krow x3 b ⟨t.val / 32, hr⟩ (chan k)
      = winK x1 x2 x3 x7 x9 b ⟨t.val, by omega⟩ (chan k) := by
  have e1 : (lane k) = ⟨(chan k).val / 2, by omega⟩ := Fin.ext (by
    show k.val % 128 = (2 * (k.val % 128) + k.val / 128) / 2; omega)
  have e2 : k.val / 128 = (chan k).val % 2 := by
    show k.val / 128 = (2 * (k.val % 128) + k.val / 128) % 2; omega
  rw [winK, dif_pos t.isLt, ← e1, ← e2]

/-- A dequantised cached value at position `k`, from its code, scale and zero. -/
theorem winV_codes (b : Fin 4) (t : Fin 1920) (k : Fin 256) (hg : (lane k).val / 16 < 8) :
    nib (x4 (ix3 b t (lane k))) (k.val / 128) * x5 (ix3 b ⟨(lane k).val / 16, hg⟩ t) + x6 (ix3 b ⟨(lane k).val / 16, hg⟩ t)
      = winV x4 x5 x6 x8 x10 b ⟨t.val, by omega⟩ (chan k) := by
  have e1 : (lane k) = ⟨(chan k).val / 2, by omega⟩ := Fin.ext (by
    show k.val % 128 = (2 * (k.val % 128) + k.val / 128) / 2; omega)
  have e2 : k.val / 128 = (chan k).val % 2 := by
    show k.val / 128 = (2 * (k.val % 128) + k.val / 128) % 2; omega
  have e3 : (⟨(lane k).val / 16, hg⟩ : Fin 8) = ⟨(chan k).val / 32, by omega⟩ := Fin.ext (by
    show k.val % 128 / 16 = (2 * (k.val % 128) + k.val / 128) / 32; omega)
  rw [winV, dif_pos t.isLt, ← e1, ← e2, ← e3]

set_option maxHeartbeats 4000000 in
/-- What sequence `b` loads is its queries, keys and values. -/
theorem loads_holds (hp : ∀ i k, x11 (ix2 i k) = if i = chan k then 1 else 0) (b : Fin 4) :
    (loads c arg1 harg1 arg2 harg2 arg3 harg3 arg4 harg4 arg5 harg5 arg6 harg6 arg7 harg7 arg8 harg8 arg9 harg9 arg10 harg10 arg11 harg11 arg12 harg12 arg14 arg15 arg16 arg17 x0 x1 x2 x3 x4 x5 x6 x7 x8 x9 x10 x11 b).Holds (fun h d => x0 (ix3 b h d)) (winK x1 x2 x3 x7 x9 b) (winV x4 x5 x6 x8 x10 b) where
  at_q h d := by
    show arg1.view.readAt _ _ _ _ = _
    rw [readAt_whole]
    refine congrArg x0 (funext fun a => Fin.ext ?_)
    match a with
    | ⟨0, _⟩ => show b.val + 1 * 0 = b.val; omega
    | ⟨1, _⟩ => show 0 + 1 * h.val = h.val; omega
    | ⟨2, _⟩ => show 0 + 1 * d.val = d.val; omega
  at_qs h k := by
    refine (pay3_apply _ _ b h k fun i k => ?_).trans ?_
    · rw [readAt_whole, ← hp]
      refine congrArg x11 (funext fun a => Fin.ext ?_)
      match a with
      | ⟨0, _⟩ => show 0 + 1 * i.val = i.val; omega
      | ⟨1, _⟩ => show 0 + 1 * k.val = k.val; omega
    · rw [readAt_whole]
      refine congrArg x0 (funext fun a => Fin.ext ?_)
      match a with
      | ⟨0, _⟩ => show 0 + 1 * b.val = b.val; omega
      | ⟨1, _⟩ => show 0 + 1 * h.val = h.val; omega
      | ⟨2, _⟩ => show 0 + 1 * (chan k).val = (chan k).val; omega
  at_k256 i t k := by
    refine Eq.trans ?_ (winK_codes x1 x2 x3 x7 x9 b ⟨256 * i.val + t.val, by omega⟩ k (by show _ < _; simp only; omega))
    have er : (⟨8 * i.val + t.val / 32, by omega⟩ : Fin 60) = ⟨(256 * i.val + t.val) / 32, by omega⟩ :=
      Fin.ext (by show 8 * i.val + t.val / 32 = (256 * i.val + t.val) / 32; omega)
    rw [er]
    refine congrArg₂ (· + ·) (congrArg₂ (· * ·) (congrArg (nib · _) ?_) (HS0_apply c arg3 harg3 arg12 harg12 arg14 x2 x11 hp b _ k))
      (HS1_apply c arg4 harg4 arg12 harg12 arg15 x3 x11 hp b _ k)
    show arg2.view.readAt _ _ _ _ = _
    rw [readAt_whole]
    refine congrArg x1 (funext fun a => Fin.ext ?_)
    match a with
    | ⟨0, _⟩ => show b.val + 1 * 0 = b.val; omega
    | ⟨1, _⟩ => show 256 * i.val + 1 * t.val = 256 * i.val + t.val; omega
    | ⟨2, _⟩ => show 0 + 1 * (lane k).val = (lane k).val; omega
  at_k128 t k := by
    refine Eq.trans ?_ (winK_codes x1 x2 x3 x7 x9 b ⟨1792 + t.val, by omega⟩ k (by show _ < _; simp only; omega))
    have er : (⟨56 + t.val / 32, by omega⟩ : Fin 60) = ⟨(1792 + t.val) / 32, by omega⟩ :=
      Fin.ext (by show 56 + t.val / 32 = (1792 + t.val) / 32; omega)
    rw [er]
    refine congrArg₂ (· + ·) (congrArg₂ (· * ·) (congrArg (nib · _) ?_) (HS0_apply c arg3 harg3 arg12 harg12 arg14 x2 x11 hp b _ k))
      (HS1_apply c arg4 harg4 arg12 harg12 arg15 x3 x11 hp b _ k)
    show arg2.view.readAt _ _ _ _ = _
    rw [readAt_whole]
    refine congrArg x1 (funext fun a => Fin.ext ?_)
    match a with
    | ⟨0, _⟩ => show b.val + 1 * 0 = b.val; omega
    | ⟨1, _⟩ => show 1792 + 1 * t.val = 1792 + t.val; omega
    | ⟨2, _⟩ => show 0 + 1 * (lane k).val = (lane k).val; omega
  at_kt t d := by
    rw [winK, dif_neg (by simp only; omega), dif_pos (by simp only; omega)]
    show arg8.view.readAt _ _ _ _ = _
    rw [readAt_whole]
    refine congrArg x7 (funext fun a => Fin.ext ?_)
    match a with
    | ⟨0, _⟩ => show b.val + 1 * 0 = b.val; omega
    | ⟨1, _⟩ => show 0 + 1 * t.val = 1920 + t.val - 1920; omega
    | ⟨2, _⟩ => show 0 + 1 * d.val = d.val; omega
  at_kd d := by
    rw [winK, dif_neg (by decide), dif_neg (by decide)]
    show arg10.view.readAt _ _ _ _ = _
    rw [readAt_whole]
    refine congrArg x9 (funext fun a => Fin.ext ?_)
    match a with
    | ⟨0, _⟩ => show b.val + 1 * 0 = b.val; omega
    | ⟨1, _⟩ => show 0 + 1 * 0 = 0; omega
    | ⟨2, _⟩ => show 0 + 1 * d.val = d.val; omega
  at_v256 i t k := by
    refine Eq.trans ?_ (winV_codes x4 x5 x6 x8 x10 b ⟨256 * i.val + t.val, by omega⟩ k (by omega))
    have er (h : 128 * (2 * i.val + t.val / 128) + t.val % 128 < 1920) :
        (⟨128 * (2 * i.val + t.val / 128) + t.val % 128, h⟩ : Fin 1920) = ⟨256 * i.val + t.val, by omega⟩ :=
      Fin.ext (by show 128 * (2 * i.val + t.val / 128) + t.val % 128 = 256 * i.val + t.val; omega)
    rw [← er (by omega)]
    refine congrArg₂ (· + ·) (congrArg₂ (· * ·) (congrArg (nib · _) ?_) (HS2_apply c arg6 harg6 arg16 x5 b ⟨2 * i.val + t.val / 128, by omega⟩ _ ⟨t.val % 128, by omega⟩))
      (HS3_apply c arg7 harg7 arg17 x6 b ⟨2 * i.val + t.val / 128, by omega⟩ _ ⟨t.val % 128, by omega⟩)
    show arg5.view.readAt _ _ _ _ = _
    rw [readAt_whole]
    refine congrArg x4 (funext fun a => Fin.ext ?_)
    match a with
    | ⟨0, _⟩ => show b.val + 1 * 0 = b.val; omega
    | ⟨1, _⟩ => show 256 * i.val + 1 * t.val = 128 * (2 * i.val + t.val / 128) + t.val % 128; omega
    | ⟨2, _⟩ => show 0 + 1 * (lane k).val = (lane k).val; omega
  at_v128 t k := by
    refine Eq.trans ?_ (winV_codes x4 x5 x6 x8 x10 b ⟨1792 + t.val, by omega⟩ k (by omega))
    refine congrArg₂ (· + ·) (congrArg₂ (· * ·) (congrArg (nib · _) ?_) (HS2_apply c arg6 harg6 arg16 x5 b 14 _ t))
      (HS3_apply c arg7 harg7 arg17 x6 b 14 _ t)
    show arg5.view.readAt _ _ _ _ = _
    rw [readAt_whole]
    refine congrArg x4 (funext fun a => Fin.ext ?_)
    match a with
    | ⟨0, _⟩ => show b.val + 1 * 0 = b.val; omega
    | ⟨1, _⟩ => show 1792 + 1 * t.val = 1792 + t.val; omega
    | ⟨2, _⟩ => show 0 + 1 * (lane k).val = (lane k).val; omega
  at_vt t d := by
    rw [winV, dif_neg (by simp only; omega), dif_pos (by simp only; omega)]
    show arg9.view.readAt _ _ _ _ = _
    rw [readAt_whole]
    refine congrArg x8 (funext fun a => Fin.ext ?_)
    match a with
    | ⟨0, _⟩ => show b.val + 1 * 0 = b.val; omega
    | ⟨1, _⟩ => show 0 + 1 * t.val = 1920 + t.val - 1920; omega
    | ⟨2, _⟩ => show 0 + 1 * d.val = d.val; omega
  at_vd d := by
    rw [winV, dif_neg (by decide), dif_neg (by decide)]
    show arg11.view.readAt _ _ _ _ = _
    rw [readAt_whole]
    refine congrArg x10 (funext fun a => Fin.ext ?_)
    match a with
    | ⟨0, _⟩ => show b.val + 1 * 0 = b.val; omega
    | ⟨1, _⟩ => show 0 + 1 * 0 = 0; omega
    | ⟨2, _⟩ => show 0 + 1 * d.val = d.val; omega

set_option maxHeartbeats 4000000 in
/-- The block a grid point leaves: the attention of its four sequences. -/
theorem point_attn (hp : ∀ i k, x11 (ix2 i k) = if i = chan k then 1 else 0) (i : grid1.Coords)
    (arg13 : Memref sig .tc .vmem S4x16x256 .bf16) (harg13 : arg13.IsWhole)
    (harg14 : arg14.IsWhole) (harg15 : arg15.IsWhole) (harg16 : arg16.IsWhole) (harg17 : arg17.IsWhole)
    (b : Fin 4) (h : Fin 16) (d : Fin 256) :
    View.canon (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11).1 (ix3 b h d)
      = attn (fun d => x0 (ix3 b h d)) (winK x1 x2 x3 x7 x9 b) (winV x4 x5 x6 x8 x10 b) d := by
  rw [pieces]
  refine canon_slabs (n := 16) (m := 256) (e := .bf16) _ _ _ _ _ _ _ _
    (fun b h d => attn (fun d => x0 (ix3 b h d)) (winK x1 x2 x3 x7 x9 b) (winV x4 x5 x6 x8 x10 b) d) ?_ ?_ ?_ ?_ b h d
  all_goals
    intro h d
    exact (loads_holds _ _ _ _ _ _ _ _ _ _ _ _ _ _ _ _ _ _ _ _ _ _ _ _ _ _ _ _ _ _ _ _ _ _ _ _ _ _ _ _ _ hp _).out h d

end Kivi
-- ==== Proof.KArr.lean ====
module

public import proofs.«01_k».proof.Proof.KLoads

/-! # The attention call: its result array in terms of its operand arrays -/

@[expose] public section

set_option maxRecDepth 16384

noncomputable section

namespace Kivi

open Idealize.ShloMosaic Idealize.ShloMosaic.TcCoe Idealize.SL.Sem Cert.KernelIdeal Cert.KernelIdeal.Gen

/-- The 2049 keys of one sequence: 1920 dequantised from packed codes (groups of 32 tokens share a scale and a zero per
    channel), 128 of the unquantised tail, the new one. -/
def tokK (codes : Fin 1920 → Fin 128 → BitVec 8) (s z : Fin 60 → Fin 256 → EReal) (tail : Fin 128 → Fin 256 → EReal)
    (new : Fin 256 → EReal) (t : Fin 2049) (d : Fin 256) : EReal :=
  if h : t.val < 1920 then
    nib (codes ⟨t.val, h⟩ ⟨d.val / 2, by omega⟩) (d.val % 2) * s ⟨t.val / 32, by omega⟩ d + z ⟨t.val / 32, by omega⟩ d
  else if h' : t.val < 2048 then tail ⟨t.val - 1920, by omega⟩ d
  else new d

/-- The 2049 values of one sequence: 1920 dequantised from packed codes (groups of 32 channels share a scale and a zero
    per token), 128 of the unquantised tail, the new one. -/
def tokV (codes : Fin 1920 → Fin 128 → BitVec 8) (s z : Fin 1920 → Fin 8 → EReal) (tail : Fin 128 → Fin 256 → EReal)
    (new : Fin 256 → EReal) (t : Fin 2049) (d : Fin 256) : EReal :=
  if h : t.val < 1920 then
    nib (codes ⟨t.val, h⟩ ⟨d.val / 2, by omega⟩) (d.val % 2) * s ⟨t.val, h⟩ ⟨d.val / 32, by omega⟩
      + z ⟨t.val, h⟩ ⟨d.val / 32, by omega⟩
  else if h' : t.val < 2048 then tail ⟨t.val - 1920, by omega⟩ d
  else new d

/-- At grid point `t` every window over the batch is at block `t`, and the permutation matrix's window at its only block. -/
theorem idx1 : ∀ t : Fin cfg1.N, win1_0.index t = ![t.val, 0, 0] ∧ win1_1.index t = ![t.val, 0, 0]
    ∧ win1_2.index t = ![t.val, 0] ∧ win1_3.index t = ![t.val, 0] ∧ win1_4.index t = ![t.val, 0, 0]
    ∧ win1_5.index t = ![t.val, 0, 0] ∧ win1_6.index t = ![t.val, 0, 0] ∧ win1_7.index t = ![t.val, 0, 0]
    ∧ win1_8.index t = ![t.val, 0, 0] ∧ win1_9.index t = ![t.val, 0, 0] ∧ win1_10.index t = ![t.val, 0, 0]
    ∧ win1_11.index t = ![0, 0] ∧ win1_12.index t = ![t.val, 0, 0] :=
  (by decide +kernel : ∀ t : Fin grid1.N, win1_0.index t = ![t.val, 0, 0] ∧ win1_1.index t = ![t.val, 0, 0]
    ∧ win1_2.index t = ![t.val, 0] ∧ win1_3.index t = ![t.val, 0] ∧ win1_4.index t = ![t.val, 0, 0]
    ∧ win1_5.index t = ![t.val, 0, 0] ∧ win1_6.index t = ![t.val, 0, 0] ∧ win1_7.index t = ![t.val, 0, 0]
    ∧ win1_8.index t = ![t.val, 0, 0] ∧ win1_9.index t = ![t.val, 0, 0] ∧ win1_10.index t = ![t.val, 0, 0]
    ∧ win1_11.index t = ![0, 0] ∧ win1_12.index t = ![t.val, 0, 0])

/-- The grid has 32 points. -/
theorem lt32 (t : Fin cfg1.N) : t.val < 32 := (by decide +kernel : ∀ t : Fin grid1.N, t.val < 32) t

variable (V : (c : Dev nD) → (b : Ref sig .tc) → Buf (Elt Ideal) ((c : Thread nD τ).loc b)) (c : Dev nD)

/-- The queries. -/
abbrev aQ : Vec Ideal S128x16x256 .bf16 := V c main_v18
/-- The packed key codes. -/
abbrev aKc : Vec Ideal S128x1920x128 .i8 := V c main_v19
/-- The key scales, 128 to a row. -/
abbrev aKs : Vec Ideal S15360x128 .f32 := V c main_v20
/-- The key zeros, 128 to a row. -/
abbrev aKz : Vec Ideal S15360x128 .f32 := V c main_v21
/-- The packed value codes. -/
abbrev aVc : Vec Ideal S128x1920x128 .i8 := V c main_v22
/-- The value scales, group by token. -/
abbrev aVs : Vec Ideal S128x8x1920 .f32 := V c main_v24
/-- The value zeros, group by token. -/
abbrev aVz : Vec Ideal S128x8x1920 .f32 := V c main_v26
/-- The tail keys. -/
abbrev aKt : Vec Ideal S128x128x256 .bf16 := V c main_v0
/-- The tail values. -/
abbrev aVt : Vec Ideal S128x128x256 .bf16 := V c main_v1
/-- The dequantised new key. -/
abbrev aKd : Vec Ideal S128x1x256 .bf16 := V c main_v17_6
/-- The dequantised new value. -/
abbrev aVd : Vec Ideal S128x1x256 .bf16 := V c main_v17_7
/-- The permutation matrix. -/
abbrev aP : Vec Ideal S256x256 .bf16 := V c main_v42

section Blocks

variable (t : Fin cfg1.N) (b : Fin 4)

/-- The sequence that row `b` of grid point `t` is. -/
abbrev sq (t : Fin cfg1.N) (b : Fin 4) : Fin 128 := ⟨4 * t.val + b.val, by have := lt32 t; omega⟩

/-- The queries' block at point `t` holds sequences `4 t …`. -/
theorem blk_q (h : Fin 16) (d : Fin 256) : (iblk1 V c 0 t : Vec Ideal S4x16x256 .bf16) (ix3 b h d) = aQ V c (ix3 (sq t b) h d) := by
  blk_ext [iblk1, idx1 t]

/-- The key codes' block at point `t` holds sequences `4 t …`. -/
theorem blk_kc (r : Fin 1920) (p : Fin 128) : (iblk1 V c 1 t : Vec Ideal S4x1920x128 .i8) (ix3 b r p) = aKc V c (ix3 (sq t b) r p) := by
  blk_ext [iblk1, idx1 t]

/-- The key scales' block at point `t` holds sequences `4 t …`. -/
theorem blk_ks (r : Fin 60) (d : Fin 256) : krow (iblk1 V c 2 t) b r d
    = aKs V c (ix2 ⟨2 * (60 * (sq t b).val + r.val) + d.val / 128, by have := lt32 t; simp only; omega⟩ ⟨d.val % 128, by omega⟩) := by
  unfold krow
  blk_ext [iblk1, idx1 t]

/-- The key zeros' block at point `t` holds sequences `4 t …`. -/
theorem blk_kz (r : Fin 60) (d : Fin 256) : krow (iblk1 V c 3 t) b r d
    = aKz V c (ix2 ⟨2 * (60 * (sq t b).val + r.val) + d.val / 128, by have := lt32 t; simp only; omega⟩ ⟨d.val % 128, by omega⟩) := by
  unfold krow
  blk_ext [iblk1, idx1 t]

/-- The value codes' block at point `t` holds sequences `4 t …`. -/
theorem blk_vc (r : Fin 1920) (p : Fin 128) : (iblk1 V c 4 t : Vec Ideal S4x1920x128 .i8) (ix3 b r p) = aVc V c (ix3 (sq t b) r p) := by
  blk_ext [iblk1, idx1 t]

/-- The value scales' block at point `t` holds sequences `4 t …`. -/
theorem blk_vs (g : Fin 8) (r : Fin 1920) : (iblk1 V c 5 t : Vec Ideal S4x8x1920 .f32) (ix3 b g r) = aVs V c (ix3 (sq t b) g r) := by
  blk_ext [iblk1, idx1 t]

/-- The value zeros' block at point `t` holds sequences `4 t …`. -/
theorem blk_vz (g : Fin 8) (r : Fin 1920) : (iblk1 V c 6 t : Vec Ideal S4x8x1920 .f32) (ix3 b g r) = aVz V c (ix3 (sq t b) g r) := by
  blk_ext [iblk1, idx1 t]

/-- The tail keys' block at point `t` holds sequences `4 t …`. -/
theorem blk_kt (r : Fin 128) (d : Fin 256) : (iblk1 V c 7 t : Vec Ideal S4x128x256 .bf16) (ix3 b r d) = aKt V c (ix3 (sq t b) r d) := by
  blk_ext [iblk1, idx1 t]

/-- The tail values' block at point `t` holds sequences `4 t …`. -/
theorem blk_vt (r : Fin 128) (d : Fin 256) : (iblk1 V c 8 t : Vec Ideal S4x128x256 .bf16) (ix3 b r d) = aVt V c (ix3 (sq t b) r d) := by
  blk_ext [iblk1, idx1 t]

/-- The new key's block at point `t` holds sequences `4 t …`. -/
theorem blk_kd (d : Fin 256) : (iblk1 V c 9 t : Vec Ideal S4x1x256 .bf16) (ix3 b 0 d) = aKd V c (ix3 (sq t b) 0 d) := by
  blk_ext [iblk1, idx1 t]

/-- The new value's block at point `t` holds sequences `4 t …`. -/
theorem blk_vd (d : Fin 256) : (iblk1 V c 10 t : Vec Ideal S4x1x256 .bf16) (ix3 b 0 d) = aVd V c (ix3 (sq t b) 0 d) := by
  blk_ext [iblk1, idx1 t]

/-- The permutation matrix's block is the whole matrix. -/
theorem blk_p (i k : Fin 256) : (iblk1 V c 11 t : Vec Ideal S256x256 .bf16) (ix2 i k) = aP V c (ix2 i k) := by
  blk_ext [iblk1, idx1 t]

end Blocks

/-- Sequence `b`'s keys, from the operand arrays. -/
def arrK (b : Fin 128) : Fin 2049 → Fin 256 → EReal :=
  tokK (fun r p => aKc V c (ix3 b r p))
    (fun r d => aKs V c (ix2 ⟨2 * (60 * b.val + r.val) + d.val / 128, by omega⟩ ⟨d.val % 128, by omega⟩))
    (fun r d => aKz V c (ix2 ⟨2 * (60 * b.val + r.val) + d.val / 128, by omega⟩ ⟨d.val % 128, by omega⟩))
    (fun r d => aKt V c (ix3 b r d)) (fun d => aKd V c (ix3 b 0 d))

/-- Sequence `b`'s values, from the operand arrays. -/
def arrV (b : Fin 128) : Fin 2049 → Fin 256 → EReal :=
  tokV (fun r p => aVc V c (ix3 b r p)) (fun r g => aVs V c (ix3 b g r)) (fun r g => aVz V c (ix3 b g r))
    (fun r d => aVt V c (ix3 b r d)) (fun d => aVd V c (ix3 b 0 d))

/-- The keys read through the blocks of point `t` are the keys of its sequences. -/
theorem winK_blk (t : Fin cfg1.N) (b : Fin 4) :
    winK (iblk1 V c 1 t) (iblk1 V c 2 t) (iblk1 V c 3 t) (iblk1 V c 7 t) (iblk1 V c 9 t) b = arrK V c (sq t b) := by
  funext r d
  simp only [winK, arrK, tokK, blk_kc, blk_ks, blk_kz, blk_kt, blk_kd]

/-- The values read through the blocks of point `t` are the values of its sequences. -/
theorem winV_blk (t : Fin cfg1.N) (b : Fin 4) :
    winV (iblk1 V c 4 t) (iblk1 V c 5 t) (iblk1 V c 6 t) (iblk1 V c 8 t) (iblk1 V c 10 t) b = arrV V c (sq t b) := by
  funext r d
  simp only [winV, arrV, tokV, blk_vc, blk_vs, blk_vz, blk_vt, blk_vd]

/-- What the body leaves at a grid point, at an index. -/
theorem outsAt1_apply (hp : ∀ i k, aP V c (ix2 i k) = if i = chan k then 1 else 0) (t : Fin cfg1.N)
    (b : Fin 4) (h : Fin 16) (d : Fin 256) :
    outsAt1 V c t (ix3 b h d)
      = attn (fun d => aQ V c (ix3 (sq t b) h d)) (arrK V c (sq t b)) (arrV V c (sq t b)) d := by
  unfold outsAt1 out1_A_12
  rw [View.read_writes_junk_eq_canon, point_attn (hp := fun i k => (blk_p V c t i k).trans (hp i k)), winK_blk, winV_blk]
  simp only [blk_q]

/-- The attention call's result array. -/
theorem attn_array (hp : ∀ i k, aP V c (ix2 i k) = if i = chan k then 1 else 0) :
    (dat1 V c).arrAt 12 cfg1.N
      = (fun j => attn (fun d => aQ V c (ix3 (j 0) (j 1) d)) (arrK V c (j 0)) (arrV V c (j 0)) (j 2) :
          Vec Ideal S128x16x256 .bf16) := by
  refine (dat1 V c).arrAt_eq_of_covers 12 _ (by decide +kernel) fun t hf y => ?_
  blk_simp
  rw [after1_12]
  have e0 : (win1_12.blk t).view.emb y 0 = sq t (y 0) := Fin.ext (by show _ = 4 * t.val + (y 0).val; blk_simp [idx1 t]; omega)
  have e1 : (win1_12.blk t).view.emb y 1 = y 1 := Fin.ext (by blk_simp [idx1 t])
  have e2 : (win1_12.blk t).view.emb y 2 = y 2 := Fin.ext (by blk_simp [idx1 t])
  have ey : y = ix3 (y 0) (y 1) (y 2) := by
    funext a
    match a with
    | ⟨0, _⟩ => rfl
    | ⟨1, _⟩ => rfl
    | ⟨2, _⟩ => rfl
  rw [e0, e1, e2]
  exact (congrArg (outsAt1 V c t) ey).trans (outsAt1_apply V c hp t (y 0) (y 1) (y 2))

end Kivi
-- ==== Proof.KQuantK.lean ====
module

public import proofs.«01_k».proof.Proof.Spec
public import proofs.«01_k».proof.Proof.KArr

/-! # The quantising call's payloads for the new key -/

@[expose] public section

set_option maxRecDepth 16384

noncomputable section

namespace Kivi

open Idealize.ShloMosaic Idealize.ShloMosaic.TcCoe Idealize.SL.Sem Cert.KernelIdeal Cert.KernelIdeal.Gen

/-- The least entry of each channel over the rows of the window after the first. -/
def loRows (w : Vec Ideal S128x32x256 .bf16) : FVec Ideal S128x256 .f32 :=
  multiReduction .minimumf [1] S128x256
    (select k0_pay7 (k0_pay6 w) (broadcast S128x32x256 (Scalar.ofBits .f32 0x7F800000#32)) : FVec Ideal S128x32x256 .f32)
    0x7F800000#32 reduces_S128x32x256_S128x256 (.inl rfl) rfl

/-- The greatest entry of each channel over the rows of the window after the first. -/
def hiRows (w : Vec Ideal S128x32x256 .bf16) : FVec Ideal S128x256 .f32 :=
  multiReduction .maximumf [1] S128x256
    (select k0_pay7 (k0_pay6 w) (broadcast S128x32x256 (Scalar.ofBits .f32 0xFF800000#32)) : FVec Ideal S128x32x256 .f32)
    0xFF800000#32 reduces_S128x32x256_S128x256 (.inl rfl) rfl

/-- The code of every entry of a matrix. -/
theorem codes_apply (kn s z : FVec Ideal S128x256 .f32) (b : Fin 128) (d : Fin 256) :
    (minimumf (broadcast S128x256 (Scalar.ofBits .f32 0x41700000#32)) (maximumf (broadcast S128x256 (Scalar.ofBits .f32 0x00000000#32))
      (roundeven (divf (subf kn z) s))) : FVec Ideal S128x256 .f32) (ix2 b d) = codeOf (kn (ix2 b d)) (s (ix2 b d)) (z (ix2 b d)) := by
  pointwise [codeOf]

/-- The scale of every entry of a matrix of ranges. -/
theorem scales_apply (hi lo : FVec Ideal S128x256 .f32) (b : Fin 128) (d : Fin 256) :
    (extf .f32 (truncf .bf16 (select (cmpf .ogt (subf hi lo) (broadcast S128x256 (Scalar.ofBits .f32 0x00000000#32)))
      (divf (subf hi lo) (broadcast S128x256 (Scalar.ofBits .f32 0x41700000#32)))
      (broadcast S128x256 (Scalar.ofBits .f32 0x3F800000#32)) : FVec Ideal S128x256 .f32) bitsLt_bf16_f32) bitsLt_bf16_f32 : FVec Ideal S128x256 .f32)
      (ix2 b d) = scaleOf (lo (ix2 b d)) (hi (ix2 b d)) := by
  pointwise
  rfl

/-- The elementwise minimum at one entry. -/
theorem least_apply (x y : FVec Ideal S128x256 .f32) (b : Fin 128) (d : Fin 256) :
    (minimumf x y) (ix2 b d) = min (x (ix2 b d)) (y (ix2 b d)) := by
  pointwise

/-- The elementwise maximum at one entry. -/
theorem greatest_apply (x y : FVec Ideal S128x256 .f32) (b : Fin 128) (d : Fin 256) :
    (maximumf x y) (ix2 b d) = max (x (ix2 b d)) (y (ix2 b d)) := by
  pointwise

/-- The new key, cast to its own shape. -/
theorem quant5_eq (kn : Vec Ideal S128x256 .bf16) : k0_pay5 kn = kn := shapeCast_self _ _

/-- A matrix with a unit axis put in the middle. -/
theorem mid_apply (x : FVec Ideal S128x256 .bf16) (b : Fin 128) (d : Fin 256) :
    shapeCast S128x1x256 x shapeCasts_S128x256_S128x1x256 (ix3 b 0 d) = x (ix2 b d) := by
  pointwise

/-- The dequantised new key: codes times scales plus zeros, reshaped. -/
theorem quant13_eq (s z c : FVec Ideal S128x256 .f32) : k0_pay13 s z c = shapeCast S128x1x256
    (addf (mulf (truncf .bf16 c bitsLt_bf16_f32) (truncf .bf16 s bitsLt_bf16_f32)) (truncf .bf16 z bitsLt_bf16_f32) : FVec Ideal S128x256 .bf16)
    shapeCasts_S128x256_S128x1x256 := rfl

/-- Codes times scales plus zeros, at one entry. -/
theorem deq_apply (s z c : FVec Ideal S128x256 .f32) (b : Fin 128) (d : Fin 256) :
    (addf (mulf (truncf .bf16 c bitsLt_bf16_f32) (truncf .bf16 s bitsLt_bf16_f32)) (truncf .bf16 z bitsLt_bf16_f32) : FVec Ideal S128x256 .bf16)
      (ix2 b d) = c (ix2 b d) * s (ix2 b d) + z (ix2 b d) := by
  pointwise

/-- The dequantised new key at one entry. -/
theorem quant13_at (s z c : FVec Ideal S128x256 .f32) (b : Fin 128) (d : Fin 256) :
    k0_pay13 s z c (ix3 b 0 d) = c (ix2 b d) * s (ix2 b d) + z (ix2 b d) := by
  rw [quant13_eq, mid_apply, deq_apply]

section Key

variable (kn : Vec Ideal S128x256 .bf16) (w : Vec Ideal S128x32x256 .bf16) (b : Fin 128)
  (tail : Fin 128 → Fin 256 → EReal) (hw : ∀ (x : Fin 32) (d : Fin 256), w (ix3 b x d) = tail (row96 x) d)

/-- The minimum over the window and the new key. -/
theorem quant8_eq : k0_pay8 kn w = minimumf (loRows w) (k0_pay5 kn) := rfl

/-- The scales: a fifteenth of the range where it is positive, one elsewhere. -/
theorem quant9_eq : k0_pay9 kn w = extf .f32 (truncf .bf16 (select (cmpf .ogt (subf (maximumf (hiRows w) (k0_pay5 kn)) (k0_pay8 kn w))
      (broadcast S128x256 (Scalar.ofBits .f32 0x00000000#32)))
      (divf (subf (maximumf (hiRows w) (k0_pay5 kn)) (k0_pay8 kn w)) (broadcast S128x256 (Scalar.ofBits .f32 0x41700000#32)))
      (broadcast S128x256 (Scalar.ofBits .f32 0x3F800000#32)) : FVec Ideal S128x256 .f32) bitsLt_bf16_f32) bitsLt_bf16_f32 := rfl

/-- The codes: rounded to the nearest whole number and clipped. -/
theorem quant11_eq : k0_pay11 kn w = minimumf (broadcast S128x256 (Scalar.ofBits .f32 0x41700000#32))
    (maximumf (broadcast S128x256 (Scalar.ofBits .f32 0x00000000#32))
      (roundeven (divf (subf (k0_pay5 kn) (k0_pay10 kn w)) (k0_pay9 kn w)))) := rfl

include hw

/-- The kernel's minimum is the least of the last 32 keys. -/
theorem quant8_apply (d : Fin 256) : k0_pay8 kn w (ix2 b d) = kLo tail (fun d => kn (ix2 b d)) d := by
  rw [quant8_eq, least_apply, quant5_eq]
  pointwise [loRows, k0_pay7, k0_pay6]
  refine Eq.trans (congrArg (fun f => min (Finset.univ.fold min _ f) _) (funext fun x => (select_sge x _ _).trans ?_))
    (kLo_masked tail (fun d => kn (ix2 b d)) d)
  rw [hw]; rfl

/-- The kernel's scale of channel `d`. -/
theorem quant9_apply (d : Fin 256) : k0_pay9 kn w (ix2 b d) = kScale tail (fun d => kn (ix2 b d)) d := by
  rw [quant9_eq, scales_apply, greatest_apply, quant5_eq, quant8_apply kn w b tail hw d]
  refine congrArg (scaleOf (kLo tail (fun d => kn (ix2 b d)) d)) ?_
  pointwise [hiRows, k0_pay7, k0_pay6]
  refine Eq.trans (congrArg (fun f => max (Finset.univ.fold max _ f) _) (funext fun x => (select_sge x _ _).trans ?_))
    (kHi_masked tail (fun d => kn (ix2 b d)) d)
  rw [hw]; rfl

/-- The kernel's zero of channel `d`. -/
theorem quant10_apply (d : Fin 256) : k0_pay10 kn w (ix2 b d) = kLo tail (fun d => kn (ix2 b d)) d := by
  refine Eq.trans ?_ (quant8_apply kn w b tail hw d)
  pointwise [k0_pay10]

/-- The kernel's code of channel `d`. -/
theorem quant11_apply (d : Fin 256) : k0_pay11 kn w (ix2 b d) = kCode tail (fun d => kn (ix2 b d)) d := by
  rw [quant11_eq, codes_apply, quant5_eq, quant9_apply kn w b tail hw d, quant10_apply kn w b tail hw d]
  rfl

/-- The kernel's packed byte `l`. -/
theorem quant12_apply (p : Vec Ideal S256x128 .bf16) (l : Fin 128)
    (hp : ∀ i : Fin 256, p (ix2 i l) = if i.val = 2 * l.val then 1 else if i.val = 2 * l.val + 1 then Ideal.ofBits .f32 0x41800000#32 else 0) :
    k0_pay12 p kn w (ix2 b l) = kByte tail (fun d => kn (ix2 b d)) l := by
  have h := sum_pack (fun i => k0_pay11 kn w (ix2 b i)) (fun i => p (ix2 i l)) l hp
  simp only [quant11_apply kn w b tail hw] at h
  have h11 := quant11_apply kn w b tail hw
  pointwise [k0_pay12, k0_pay4]
  simp only [h11]
  exact congrArg (fun x => BitVec.setWidth 8 (Ideal.fptosi 32 x)) h

/-- The kernel's dequantised new key. -/
theorem quant13_apply (d : Fin 256) : k0_pay13 (k0_pay9 kn w) (k0_pay10 kn w) (k0_pay11 kn w) (ix3 b 0 d)
    = kDeq tail (fun d => kn (ix2 b d)) d := by
  have h10 := quant10_apply kn w b tail hw d
  have h9 := quant9_apply kn w b tail hw d
  have h11 := quant11_apply kn w b tail hw d
  rw [quant13_at, h9, h10, h11]
  rfl

end Key

end Kivi
-- ==== Proof.KQuantV.lean ====
module

public import proofs.«01_k».proof.Proof.Spec
public import proofs.«01_k».proof.Proof.KArr

/-! # The quantising call's payloads for the new value -/

@[expose] public section

set_option maxRecDepth 16384

noncomputable section

namespace Kivi

open Idealize.ShloMosaic Idealize.ShloMosaic.TcCoe Idealize.SL.Sem Cert.KernelIdeal Cert.KernelIdeal.Gen

section Value

variable (v : Vec Ideal S128x256 .bf16) (b : Fin 128)

/-- The kernel's minimum of group `g`. -/
theorem quant15_apply (g : Fin 8) : k0_pay15 v (ix2 g b) = vLo (fun d => v (ix2 b d)) g := by
  pointwise [k0_pay15, k0_pay14]
  rfl

/-- The kernel's scale of group `g`. -/
theorem quant16_apply (g : Fin 8) : k0_pay16 v (ix2 g b) = vScale (fun d => v (ix2 b d)) g := by
  have h := quant15_apply v b g
  pointwise [k0_pay16, k0_pay14]
  rw [h]
  rfl

/-- The kernel's zero of group `g`. -/
theorem quant17_apply (g : Fin 8) : k0_pay17 v (ix2 g b) = vLo (fun d => v (ix2 b d)) g := by
  refine Eq.trans ?_ (quant15_apply v b g)
  pointwise [k0_pay17]

/-- The kernel's code of channel `d`. -/
theorem quant18_apply (d : Fin 256) :
    min (Ideal.ofBits .f32 0x41700000#32) (k0_pay18 v (ix3 (⟨d.val / 32, by omega⟩ : Fin 8) (⟨d.val % 32, by omega⟩ : Fin 32) b))
      = vCode (fun d => v (ix2 b d)) d := by
  have h15 := quant15_apply v b ⟨d.val / 32, by omega⟩
  have h16 := quant16_apply v b ⟨d.val / 32, by omega⟩
  pointwise [k0_pay18, k0_pay17, k0_pay14]
  rw [h15, h16]
  rfl

/-- The kernel's packed byte `l`. -/
theorem quant2_apply (p : FVec Ideal S256x128 .bf16) (l : Fin 128)
    (hp : ∀ i : Fin 256, p (ix2 i l) = if i.val = 2 * l.val then 1 else if i.val = 2 * l.val + 1 then Ideal.ofBits .f32 0x41800000#32 else 0) :
    k0_pay2 p (k0_pay18 v) k0_pay19 (ix2 b l) = vByte (fun d => v (ix2 b d)) l := by
  have h := sum_pack (fun d => vCode (fun d => v (ix2 b d)) d) (fun i => p (ix2 i l)) l hp
  have h18 : ∀ d : Fin 256, min ((k0_pay19 : FVec Ideal S8x32x128 .f32) (ix3 (⟨d.val / 32, by omega⟩ : Fin 8) (⟨d.val % 32, by omega⟩ : Fin 32) b))
      (k0_pay18 v (ix3 (⟨d.val / 32, by omega⟩ : Fin 8) (⟨d.val % 32, by omega⟩ : Fin 32) b)) = vCode (fun d => v (ix2 b d)) d :=
    fun d => quant18_apply v b d
  pointwise [k0_pay2, k0_pay1]
  simp only [h18]
  exact congrArg (fun x => BitVec.setWidth 8 (Ideal.fptosi 32 x)) h

/-- The kernel's dequantised new value. -/
theorem quant3_apply (d : Fin 256) : k0_pay3 (k0_pay16 v) (k0_pay17 v) (k0_pay18 v) k0_pay19 (ix3 b 0 d) = vDeq (fun d => v (ix2 b d)) d := by
  have h18 : min ((k0_pay19 : FVec Ideal S8x32x128 .f32) (ix3 (⟨d.val / 32, by omega⟩ : Fin 8) (⟨d.val % 32, by omega⟩ : Fin 32) b))
      (k0_pay18 v (ix3 (⟨d.val / 32, by omega⟩ : Fin 8) (⟨d.val % 32, by omega⟩ : Fin 32) b)) = vCode (fun d => v (ix2 b d)) d :=
    quant18_apply v b d
  have h17 := quant17_apply v b ⟨d.val / 32, by omega⟩
  have h16 := quant16_apply v b ⟨d.val / 32, by omega⟩
  pointwise [k0_pay3, k0_pay1]
  rw [h18, h17, h16]
  rfl

end Value

end Kivi
-- ==== Proof.KQuant.lean ====
module

public import proofs.«01_k».proof.Proof.KQuantK
public import proofs.«01_k».proof.Proof.KQuantV

/-! # The quantising call: its result arrays in terms of its operand arrays -/

@[expose] public section

set_option maxRecDepth 16384

noncomputable section

namespace Kivi

open Idealize.ShloMosaic Idealize.ShloMosaic.TcCoe Idealize.SL.Sem Cert.KernelIdeal Cert.KernelIdeal.Gen

/-- The first kernel's one grid point: the tail's last block of 32 rows, and the whole of the other arguments. -/
theorem idx0 : ∀ t : Fin cfg0.N, win0_0.index t = ![0, 3, 0] ∧ win0_1.index t = ![0, 0]
    ∧ win0_2.index t = ![0, 0] ∧ win0_3.index t = ![0, 0] :=
  (by decide +kernel : ∀ t : Fin grid0.N, win0_0.index t = ![0, 3, 0] ∧ win0_1.index t = ![0, 0]
    ∧ win0_2.index t = ![0, 0] ∧ win0_3.index t = ![0, 0])

variable (V : (c : Dev nD) → (b : Ref sig .tc) → Buf (Elt Ideal) ((c : Thread nD τ).loc b)) (c : Dev nD)

/-- The tail keys. -/
abbrev nT : Vec Ideal S128x128x256 .bf16 := V c main_v0
/-- The new key. -/
abbrev nK : Vec Ideal S128x256 .bf16 := V c main_v2
/-- The new value. -/
abbrev nV : Vec Ideal S128x256 .bf16 := V c main_v3
/-- The packing matrix. -/
abbrev nP : Vec Ideal S256x128 .bf16 := V c main_v16

/-- Sequence `b`'s tail keys. -/
abbrev seqT (b : Fin 128) : Fin 128 → Fin 256 → EReal := fun r d => nT V c (ix3 b r d)
/-- Sequence `b`'s new key. -/
abbrev seqK (b : Fin 128) : Fin 256 → EReal := fun d => nK V c (ix2 b d)
/-- Sequence `b`'s new value. -/
abbrev seqV (b : Fin 128) : Fin 256 → EReal := fun d => nV V c (ix2 b d)

section Blocks

variable (t : Fin cfg0.N)

/-- The tail's block holds rows 96 to 127. -/
theorem blk0_t (b : Fin 128) (x : Fin 32) (d : Fin 256) :
    (iblk0 V c 0 t : Vec Ideal S128x32x256 .bf16) (ix3 b x d) = seqT V c b (row96 x) d := by
  unfold row96
  blk_ext [iblk0, idx0 t]

/-- The new key's block is the whole of it. -/
theorem blk0_k : (iblk0 V c 1 t : Vec Ideal S128x256 .bf16) = nK V c := by
  funext j
  blk_ext [iblk0, idx0 t]

/-- The new value's block is the whole of it. -/
theorem blk0_v : (iblk0 V c 2 t : Vec Ideal S128x256 .bf16) = nV V c := by
  funext j
  blk_ext [iblk0, idx0 t]

/-- The packing matrix's block is the whole of it. -/
theorem blk0_p : (iblk0 V c 3 t : Vec Ideal S256x128 .bf16) = nP V c := by
  funext j
  blk_ext [iblk0, idx0 t]

end Blocks

section Outs

variable (x0 : Vec Ideal S128x32x256 .bf16) (x1 x2 : Vec Ideal S128x256 .bf16) (x3 : Vec Ideal S256x128 .bf16)

/-- The load of the packing matrix reads the whole of it. -/
theorem ld0 : View.ld x3 r0_0 = x3 := View.ld_unit_zero (by funext a; fin_cases a <;> rfl) _ _
/-- The load of the new key reads the whole of it. -/
theorem ld1 : View.ld x1 r0_1 = x1 := View.ld_unit_zero (by funext a; fin_cases a <;> rfl) _ _
/-- The load of the tail's block reads the whole of it. -/
theorem ld2 : View.ld x0 r0_2 = x0 := View.ld_unit_zero (by funext a; fin_cases a <;> rfl) _ _

/-- The stored key codes. -/
theorem out4_eq : out0_4 x0 x1 x2 x3 = k0_pay12 x3 x1 x0 := by
  unfold out0_4
  rw [View.canon_unit_zero (by funext a; fin_cases a <;> rfl), ld0, ld1, ld2]

/-- The stored key scales. -/
theorem out5_eq : out0_5 x0 x1 x2 x3 = k0_pay9 x1 x0 := by
  unfold out0_5 k0_pay20
  rw [View.canon_unit_zero (by funext a; fin_cases a <;> rfl), ld1, ld2]

/-- The stored key zeros. -/
theorem out6_eq : out0_6 x0 x1 x2 x3 = k0_pay10 x1 x0 := by
  unfold out0_6 k0_pay21
  rw [View.canon_unit_zero (by funext a; fin_cases a <;> rfl), ld1, ld2]

/-- The stored value codes. -/
theorem out7_eq : out0_7 x0 x1 x2 x3 = k0_pay2 (k0_pay4 x3) (k0_pay18 x2) k0_pay19 := by
  unfold out0_7 k0_pay24 k0_pay25
  rw [View.canon_unit_zero (by funext a; fin_cases a <;> rfl), ld0, ld1]

/-- The stored value scales. -/
theorem out8_eq : out0_8 x0 x1 x2 x3 = k0_pay16 x2 := by
  unfold out0_8 k0_pay22
  rw [View.canon_unit_zero (by funext a; fin_cases a <;> rfl), ld1]

/-- The stored value zeros. -/
theorem out9_eq : out0_9 x0 x1 x2 x3 = k0_pay17 x2 := by
  unfold out0_9 k0_pay23
  rw [View.canon_unit_zero (by funext a; fin_cases a <;> rfl), ld1]

/-- The stored dequantised new key. -/
theorem out10_eq : out0_10 x0 x1 x2 x3 = k0_pay13 (k0_pay9 x1 x0) (k0_pay10 x1 x0) (k0_pay11 x1 x0) := by
  unfold out0_10 k0_pay20 k0_pay21
  rw [View.canon_unit_zero (by funext a; fin_cases a <;> rfl), ld1, ld2]

/-- The stored dequantised new value. -/
theorem out11_eq : out0_11 x0 x1 x2 x3 = k0_pay3 (k0_pay16 x2) (k0_pay17 x2) (k0_pay18 x2) k0_pay19 := by
  unfold out0_11 k0_pay22 k0_pay23 k0_pay24 k0_pay25
  rw [View.canon_unit_zero (by funext a; fin_cases a <;> rfl), ld1]

end Outs

/-- The packing matrix: row `i`, column `l` has one at `i = 2 l`, sixteen at `i = 2 l + 1`. -/
def IsPack (p : Vec Ideal S256x128 .bf16) : Prop :=
  ∀ (l : Fin 128) (i : Fin 256), p (ix2 i l)
    = if i.val = 2 * l.val then 1 else if i.val = 2 * l.val + 1 then Ideal.ofBits .f32 0x41800000#32 else 0

/-- The new key's packed codes. -/
theorem quant_kcodes (hp : IsPack (nP V c)) :
    (dat0 V c).arrAt 4 cfg0.N = (fun j => kByte (seqT V c (j 0)) (seqK V c (j 0)) (j 1) : Vec Ideal S128x128 .i8) := by
  refine (dat0 V c).arrAt_eq_of_after_last 4 t0_0 (by decide +kernel) _ fun j => ?_
  blk_simp
  rw [after0_4, out4_eq, blk0_k, blk0_p]
  have ej : j = ix2 (j 0) (j 1) := by idx_ext
  refine (congrArg _ ej).trans ?_
  exact quant12_apply _ _ (j 0) (seqT V c (j 0)) (fun x d => blk0_t V c t0_0 (j 0) x d) _ (j 1) (hp (j 1))

/-- The new key's scales. -/
theorem quant_kscale :
    (dat0 V c).arrAt 5 cfg0.N = (fun j => kScale (seqT V c (j 0)) (seqK V c (j 0)) (j 1) : Vec Ideal S128x256 .f32) := by
  refine (dat0 V c).arrAt_eq_of_after_last 5 t0_0 (by decide +kernel) _ fun j => ?_
  blk_simp
  rw [after0_5, out5_eq, blk0_k]
  have ej : j = ix2 (j 0) (j 1) := by idx_ext
  refine (congrArg _ ej).trans ?_
  exact quant9_apply _ _ (j 0) (seqT V c (j 0)) (fun x d => blk0_t V c t0_0 (j 0) x d) (j 1)

/-- The new key's zeros. -/
theorem quant_kzero :
    (dat0 V c).arrAt 6 cfg0.N = (fun j => kLo (seqT V c (j 0)) (seqK V c (j 0)) (j 1) : Vec Ideal S128x256 .f32) := by
  refine (dat0 V c).arrAt_eq_of_after_last 6 t0_0 (by decide +kernel) _ fun j => ?_
  blk_simp
  rw [after0_6, out6_eq, blk0_k]
  have ej : j = ix2 (j 0) (j 1) := by idx_ext
  refine (congrArg _ ej).trans ?_
  exact quant10_apply _ _ (j 0) (seqT V c (j 0)) (fun x d => blk0_t V c t0_0 (j 0) x d) (j 1)

/-- The new value's packed codes. -/
theorem quant_vcodes (hp : IsPack (nP V c)) :
    (dat0 V c).arrAt 7 cfg0.N = (fun j => vByte (seqV V c (j 0)) (j 1) : Vec Ideal S128x128 .i8) := by
  refine (dat0 V c).arrAt_eq_of_after_last 7 t0_0 (by decide +kernel) _ fun j => ?_
  blk_simp
  rw [after0_7, out7_eq, blk0_v, blk0_p]
  have ej : j = ix2 (j 0) (j 1) := by idx_ext
  refine (congrArg _ ej).trans ?_
  refine quant2_apply _ (j 0) _ (j 1) fun i => Eq.trans ?_ (hp (j 1) i)
  pointwise [k0_pay4]

/-- The new value's scales, one row per group of channels. -/
theorem quant_vscale :
    (dat0 V c).arrAt 8 cfg0.N = (fun j => vScale (seqV V c (j 1)) (j 0) : Vec Ideal S8x128 .f32) := by
  refine (dat0 V c).arrAt_eq_of_after_last 8 t0_0 (by decide +kernel) _ fun j => ?_
  blk_simp
  rw [after0_8, out8_eq, blk0_v]
  have ej : j = ix2 (j 0) (j 1) := by idx_ext
  exact (congrArg _ ej).trans (quant16_apply _ (j 1) (j 0))

/-- The new value's zeros, one row per group of channels. -/
theorem quant_vzero :
    (dat0 V c).arrAt 9 cfg0.N = (fun j => vLo (seqV V c (j 1)) (j 0) : Vec Ideal S8x128 .f32) := by
  refine (dat0 V c).arrAt_eq_of_after_last 9 t0_0 (by decide +kernel) _ fun j => ?_
  blk_simp
  rw [after0_9, out9_eq, blk0_v]
  have ej : j = ix2 (j 0) (j 1) := by idx_ext
  exact (congrArg _ ej).trans (quant17_apply _ (j 1) (j 0))

/-- The new key, dequantised. -/
theorem quant_kdeq :
    (dat0 V c).arrAt 10 cfg0.N = (fun j => kDeq (seqT V c (j 0)) (seqK V c (j 0)) (j 2) : Vec Ideal S128x1x256 .bf16) := by
  refine (dat0 V c).arrAt_eq_of_after_last 10 t0_0 (by decide +kernel) _ fun j => ?_
  blk_simp
  rw [after0_10, out10_eq, blk0_k]
  have ej : j = ix3 (j 0) 0 (j 2) := by idx_ext
  refine (congrArg _ ej).trans ?_
  exact quant13_apply _ _ (j 0) (seqT V c (j 0)) (fun x d => blk0_t V c t0_0 (j 0) x d) (j 2)

/-- The new value, dequantised. -/
theorem quant_vdeq :
    (dat0 V c).arrAt 11 cfg0.N = (fun j => vDeq (seqV V c (j 0)) (j 2) : Vec Ideal S128x1x256 .bf16) := by
  refine (dat0 V c).arrAt_eq_of_after_last 11 t0_0 (by decide +kernel) _ fun j => ?_
  blk_simp
  rw [after0_11, out11_eq, blk0_v]
  have ej : j = ix3 (j 0) 0 (j 2) := by idx_ext
  exact (congrArg _ ej).trans (quant3_apply _ (j 0) (j 2))

end Kivi
-- ==== Proof.Result.lean ====
module

public import proofs.«01_k».proof.Proof.Spec
public import proofs.«01_k».proof.Proof.KArr

/-! # The seven results as functions of the eleven arguments -/

@[expose] public section

set_option maxRecDepth 16384

noncomputable section

namespace Kivi

open Idealize.ShloMosaic Idealize.ShloMosaic.TcCoe Idealize.SL.Sem Cert.KernelIdeal Cert.KernelIdeal.Gen

section Results

variable (x0 : Vec Ideal S128x1x4096 .bf16) (x1 x2 : Vec Ideal S128x1x1x256 .bf16) (x3 : Vec Ideal S128x1920x1x128 .i8)
  (x4 x5 : Vec Ideal S128x60x1x256 .f32) (x6 : Vec Ideal S128x1920x1x128 .i8) (x7 x8 : Vec Ideal S128x1920x1x8 .f32)
  (x9 x10 : Vec Ideal S128x128x1x256 .bf16)

/-- Sequence `b`'s tail keys. -/
def tailOf (b : Fin 128) : Fin 128 → Fin 256 → EReal := fun r d => x9 (ix4 b r 0 d)

/-- Sequence `b`'s new key or value. -/
def newOf (b : Fin 128) : Fin 256 → EReal := fun d => x1 (ix4 b 0 0 d)

/-- Sequence `b`'s 2049 keys. -/
def keysOf (b : Fin 128) : Fin 2049 → Fin 256 → EReal :=
  tokK (fun r p => x3 (ix4 b r 0 p)) (fun r d => x4 (ix4 b r 0 d)) (fun r d => x5 (ix4 b r 0 d)) (tailOf x9 b)
    (kDeq (tailOf x9 b) (newOf x1 b))

/-- Sequence `b`'s 2049 values. -/
def valuesOf (b : Fin 128) : Fin 2049 → Fin 256 → EReal :=
  tokV (fun r p => x6 (ix4 b r 0 p)) (fun r g => x7 (ix4 b r 0 g)) (fun r g => x8 (ix4 b r 0 g)) (tailOf x10 b)
    (vDeq (newOf x2 b))

/-- The attention output: head `h` of sequence `b` at channels `256 h …`. -/
def resY : Vec Ideal S128x1x4096 .bf16 := fun j =>
  attn (fun d => x0 (ix3 (j 0) 0 ⟨(j 2).val / 256 * 256 + d.val, by have : (j 2).val < 4096 := (j 2).isLt; omega⟩))
    (keysOf x1 x3 x4 x5 x9 (j 0)) (valuesOf x2 x6 x7 x8 x10 (j 0)) ⟨(j 2).val % 256, by omega⟩

/-- The new key's packed codes. -/
def resKCodes : Vec Ideal S128x1x1x128 .i8 := fun j => kByte (tailOf x9 (j 0)) (newOf x1 (j 0)) (j 3)
/-- The new key's scales. -/
def resKScale : Vec Ideal S128x1x1x256 .f32 := fun j => kScale (tailOf x9 (j 0)) (newOf x1 (j 0)) (j 3)
/-- The new key's zeros. -/
def resKZero : Vec Ideal S128x1x1x256 .f32 := fun j => kLo (tailOf x9 (j 0)) (newOf x1 (j 0)) (j 3)
/-- The new value's packed codes. -/
def resVCodes : Vec Ideal S128x1x1x128 .i8 := fun j => vByte (newOf x2 (j 0)) (j 3)
/-- The new value's scales. -/
def resVScale : Vec Ideal S128x1x1x8 .f32 := fun j => vScale (newOf x2 (j 0)) (j 3)
/-- The new value's zeros. -/
def resVZero : Vec Ideal S128x1x1x8 .f32 := fun j => vLo (newOf x2 (j 0)) (j 3)

end Results

end Kivi
-- ==== Proof.Host.lean ====
module

public import proofs.«01_k».proof.Proof.Result
public import Idealize.ShloMosaic.Lib.Claim

/-! # What the two calls read: the host's reshapes, transposes and index tables, in terms of the arguments -/

@[expose] public section

set_option maxRecDepth 16384

noncomputable section

namespace Kivi

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg) (c : Dev nD)

/-- Argument 0 at launch: the query activations. -/
abbrev A0 : Vec Ideal S128x1x4096 .bf16 := m ((c.tc : Thread nD τ).loc main_arg0)
/-- Argument 1 at launch: the new key. -/
abbrev A1 : Vec Ideal S128x1x1x256 .bf16 := m ((c.tc : Thread nD τ).loc main_arg1)
/-- Argument 2 at launch: the new value. -/
abbrev A2 : Vec Ideal S128x1x1x256 .bf16 := m ((c.tc : Thread nD τ).loc main_arg2)
/-- Argument 3 at launch: the cached keys' packed codes. -/
abbrev A3 : Vec Ideal S128x1920x1x128 .i8 := m ((c.tc : Thread nD τ).loc main_arg3)
/-- Argument 4 at launch: the cached keys' scales. -/
abbrev A4 : Vec Ideal S128x60x1x256 .f32 := m ((c.tc : Thread nD τ).loc main_arg4)
/-- Argument 5 at launch: the cached keys' zeros. -/
abbrev A5 : Vec Ideal S128x60x1x256 .f32 := m ((c.tc : Thread nD τ).loc main_arg5)
/-- Argument 6 at launch: the cached values' packed codes. -/
abbrev A6 : Vec Ideal S128x1920x1x128 .i8 := m ((c.tc : Thread nD τ).loc main_arg6)
/-- Argument 7 at launch: the cached values' scales. -/
abbrev A7 : Vec Ideal S128x1920x1x8 .f32 := m ((c.tc : Thread nD τ).loc main_arg7)
/-- Argument 8 at launch: the cached values' zeros. -/
abbrev A8 : Vec Ideal S128x1920x1x8 .f32 := m ((c.tc : Thread nD τ).loc main_arg8)
/-- Argument 9 at launch: the tail keys. -/
abbrev A9 : Vec Ideal S128x128x1x256 .bf16 := m ((c.tc : Thread nD τ).loc main_arg9)
/-- Argument 10 at launch: the tail values. -/
abbrev A10 : Vec Ideal S128x128x1x256 .bf16 := m ((c.tc : Thread nD τ).loc main_arg10)

/-! ## The quantising call's operands -/

/-- The tail keys as the first kernel receives them: the argument, reshaped. -/
theorem v0_eq : (V5 m ρ c main_v0 : Vec Ideal S128x128x256 .bf16)
    = shapeCast S128x128x256 (A9 m c) shapeCasts_S128x128x1x256_S128x128x256 := by
  show StableHlo.after hostOps0_4 (W4 m ρ c) (Proc.devRef .tc main_v0) = _
  entry_read
  rfl

/-- The tail values as the second kernel receives them: the argument, reshaped. -/
theorem v1_eq : (V5 m ρ c main_v1 : Vec Ideal S128x128x256 .bf16)
    = shapeCast S128x128x256 (A10 m c) shapeCasts_S128x128x1x256_S128x128x256 := by
  show StableHlo.after hostOps0_4 (W4 m ρ c) (Proc.devRef .tc main_v1) = _
  entry_read
  rfl

/-- The new key as the first kernel receives it: the argument, reshaped. -/
theorem v2_eq : (V5 m ρ c main_v2 : Vec Ideal S128x256 .bf16)
    = shapeCast S128x256 (A1 m c) shapeCasts_S128x1x1x256_S128x256 := by
  show StableHlo.after hostOps0_4 (W4 m ρ c) (Proc.devRef .tc main_v2) = _
  entry_read
  rfl

/-- The new value as the first kernel receives it: the argument, reshaped. -/
theorem v3_eq : (V5 m ρ c main_v3 : Vec Ideal S128x256 .bf16)
    = shapeCast S128x256 (A2 m c) shapeCasts_S128x1x1x256_S128x256 := by
  show StableHlo.after hostOps0_4 (W4 m ρ c) (Proc.devRef .tc main_v3) = _
  entry_read
  rfl

/-- One entry of the reshaped tail keys. -/
theorem v0_read (b r : Fin 128) (d : Fin 256) : (V5 m ρ c main_v0 : Vec Ideal S128x128x256 .bf16) (ix3 b r d) = tailOf (A9 m c) b r d := by
  rw [v0_eq, tailOf]
  generalize A9 m c = x
  pointwise

/-- One entry of the reshaped tail values. -/
theorem v1_read (b r : Fin 128) (d : Fin 256) : (V5 m ρ c main_v1 : Vec Ideal S128x128x256 .bf16) (ix3 b r d) = tailOf (A10 m c) b r d := by
  rw [v1_eq, tailOf]
  generalize A10 m c = x
  pointwise

/-- One entry of the reshaped new key. -/
theorem v2_read (b : Fin 128) (d : Fin 256) : (V5 m ρ c main_v2 : Vec Ideal S128x256 .bf16) (ix2 b d) = newOf (A1 m c) b d := by
  rw [v2_eq, newOf]
  generalize A1 m c = x
  pointwise

/-- One entry of the reshaped new value. -/
theorem v3_read (b : Fin 128) (d : Fin 256) : (V5 m ρ c main_v3 : Vec Ideal S128x256 .bf16) (ix2 b d) = newOf (A2 m c) b d := by
  rw [v3_eq, newOf]
  generalize A2 m c = x
  pointwise

/-- A selection by equality of words, as an `if`. -/
theorem select_eq {α : Type} (a b : BitVec 32) (x y : α) : Scalar.select (IntOp.cmpi .eq a b) x y = if a = b then x else y := by
  by_cases h : a = b
  · simp [Scalar.select, IntOp.cmpi, h]
  · simp [Scalar.select, IntOp.cmpi, h, beq_eq_false_iff_ne.mpr h]

/-- A selection by signed order of words, as an `if`. -/
theorem select_slt {α : Type} (a b : BitVec 32) (x y : α) : Scalar.select (IntOp.cmpi .slt a b) x y = if a.slt b then x else y := by
  by_cases h : a.slt b <;> simp [Scalar.select, IntOp.cmpi, h]

/-- The packing matrix the host builds from two index tables. -/
def packTable : FVec Ideal S256x128 .bf16 :=
  truncf .bf16
    (select
      (cmpi .eq (iotaInDim S256x128 32 0)
        (muli (broadcastInDim S256x128 ![] bcast_S_S256x128 (constantI S_ 32 2#32)) (iotaInDim S256x128 32 1)))
      (broadcastInDim S256x128 ![] bcast_S_S256x128 (constant S_ .f32 0x3F800000#32))
      (select
        (cmpi .eq (iotaInDim S256x128 32 0)
          (addi (muli (broadcastInDim S256x128 ![] bcast_S_S256x128 (constantI S_ 32 2#32)) (iotaInDim S256x128 32 1))
            (broadcastInDim S256x128 ![] bcast_S_S256x128 (constantI S_ 32 1#32))))
        (broadcastInDim S256x128 ![] bcast_S_S256x128 (constant S_ .f32 0x41800000#32))
        (broadcastInDim S256x128 ![] bcast_S_S256x128 (constant S_ .f32 0x00000000#32))))
    bitsLt_bf16_f32

/-- The packing matrix the first kernel receives is the table `packTable`. -/
theorem v16_eq : (V5 m ρ c main_v16 : Vec Ideal S256x128 .bf16) = packTable := by
  show StableHlo.after hostOps0_4 (W4 m ρ c) (Proc.devRef .tc main_v16) = _
  entry_read
  rfl

/-- The packing table: one at the even channel of column `l`, sixteen at the odd one, zero elsewhere. -/
theorem packTable_apply (i : Fin 256) (l : Fin 128) : packTable (ix2 i l)
    = if i.val = 2 * l.val then 1 else if i.val = 2 * l.val + 1 then Ideal.ofBits .f32 0x41800000#32 else 0 := by
  have e1 : (BitVec.ofNat 32 i.val = 2#32 * BitVec.ofNat 32 l.val) = (i.val = 2 * l.val) := by
    rw [BitVec.toNat_inj.symm]; simp; omega
  have e2 : (BitVec.ofNat 32 i.val = 2#32 * BitVec.ofNat 32 l.val + 1#32) = (i.val = 2 * l.val + 1) := by
    rw [BitVec.toNat_inj.symm]; simp; omega
  pointwise [packTable]
  refine (select_eq _ _ _ _).trans ?_
  rw [select_eq]
  exact if_congr (iff_of_eq e1) rfl (if_congr (iff_of_eq e2) rfl rfl)

/-! ## The attention call's operands -/

/-- The queries as the second kernel receives them: the argument, reshaped. -/
theorem v18_eq : aQ (V11 m ρ) c = shapeCast S128x16x256 (A0 m c) shapeCasts_S128x1x4096_S128x16x256 := by
  show StableHlo.after hostOps1_4 (W10 m ρ c) (Proc.devRef .tc main_v18) = _
  entry_read
  rw [W6_args m ρ c main_arg0 (by decide)]
  rfl

/-- The packed key codes as the second kernel receives them: the argument, reshaped. -/
theorem v19_eq : aKc (V11 m ρ) c = shapeCast S128x1920x128 (A3 m c) shapeCasts_S128x1920x1x128_S128x1920x128 := by
  show StableHlo.after hostOps1_4 (W10 m ρ c) (Proc.devRef .tc main_v19) = _
  entry_read
  rw [W6_args m ρ c main_arg3 (by decide)]
  rfl

/-- The key scales as the second kernel receives them: the argument, reshaped to rows of 128. -/
theorem v20_eq : aKs (V11 m ρ) c = shapeCast S15360x128 (A4 m c) shapeCasts_S128x60x1x256_S15360x128 := by
  show StableHlo.after hostOps1_4 (W10 m ρ c) (Proc.devRef .tc main_v20) = _
  entry_read
  rw [W6_args m ρ c main_arg4 (by decide)]
  rfl

/-- The key zeros as the second kernel receives them: the argument, reshaped to rows of 128. -/
theorem v21_eq : aKz (V11 m ρ) c = shapeCast S15360x128 (A5 m c) shapeCasts_S128x60x1x256_S15360x128 := by
  show StableHlo.after hostOps1_4 (W10 m ρ c) (Proc.devRef .tc main_v21) = _
  entry_read
  rw [W6_args m ρ c main_arg5 (by decide)]
  rfl

/-- The packed value codes as the second kernel receives them: the argument, reshaped. -/
theorem v22_eq : aVc (V11 m ρ) c = shapeCast S128x1920x128 (A6 m c) shapeCasts_S128x1920x1x128_S128x1920x128 := by
  show StableHlo.after hostOps1_4 (W10 m ρ c) (Proc.devRef .tc main_v22) = _
  entry_read
  rw [W6_args m ρ c main_arg6 (by decide)]
  rfl

/-- The value scales as the second kernel receives them: the argument, reshaped and transposed. -/
theorem v24_eq : aVs (V11 m ρ) c = transpose S128x8x1920 [0, 2, 1]
    (shapeCast S128x1920x8 (A7 m c) shapeCasts_S128x1920x1x8_S128x1920x8) transposes_S128x1920x8_S128x8x1920_0_2_1 := by
  show StableHlo.after hostOps1_4 (W10 m ρ c) (Proc.devRef .tc main_v24) = _
  entry_read
  rw [W6_args m ρ c main_arg7 (by decide)]
  rfl

/-- The value zeros as the second kernel receives them: the argument, reshaped and transposed. -/
theorem v26_eq : aVz (V11 m ρ) c = transpose S128x8x1920 [0, 2, 1]
    (shapeCast S128x1920x8 (A8 m c) shapeCasts_S128x1920x1x8_S128x1920x8) transposes_S128x1920x8_S128x8x1920_0_2_1 := by
  show StableHlo.after hostOps1_4 (W10 m ρ c) (Proc.devRef .tc main_v26) = _
  entry_read
  rw [W6_args m ρ c main_arg8 (by decide)]
  rfl

/-- One entry of the reshaped queries. -/
theorem v18_read (b : Fin 128) (h : Fin 16) (d : Fin 256) :
    aQ (V11 m ρ) c (ix3 b h d) = A0 m c (ix3 b 0 ⟨h.val * 256 + d.val, by omega⟩) := by
  rw [v18_eq]
  generalize A0 m c = x
  pointwise

/-- One entry of the reshaped key codes. -/
theorem v19_read (b : Fin 128) (r : Fin 1920) (p : Fin 128) : aKc (V11 m ρ) c (ix3 b r p) = A3 m c (ix4 b r 0 p) := by
  rw [v19_eq]
  generalize A3 m c = x
  pointwise

/-- A row of 256 channels is two consecutive rows of 128. -/
theorem split_row (x : Vec Ideal S128x60x1x256 .f32) (b : Fin 128) (r : Fin 60) (d : Fin 256) :
    shapeCast S15360x128 x shapeCasts_S128x60x1x256_S15360x128
      (ix2 ⟨2 * (60 * b.val + r.val) + d.val / 128, by omega⟩ ⟨d.val % 128, by omega⟩) = x (ix4 b r 0 d) := by
  pointwise

/-- One entry of the reshaped key scales. -/
theorem v20_read (b : Fin 128) (r : Fin 60) (d : Fin 256) :
    aKs (V11 m ρ) c (ix2 ⟨2 * (60 * b.val + r.val) + d.val / 128, by omega⟩ ⟨d.val % 128, by omega⟩) = A4 m c (ix4 b r 0 d) := by
  rw [v20_eq]
  exact split_row _ b r d

/-- One entry of the reshaped key zeros. -/
theorem v21_read (b : Fin 128) (r : Fin 60) (d : Fin 256) :
    aKz (V11 m ρ) c (ix2 ⟨2 * (60 * b.val + r.val) + d.val / 128, by omega⟩ ⟨d.val % 128, by omega⟩) = A5 m c (ix4 b r 0 d) := by
  rw [v21_eq]
  exact split_row _ b r d

/-- One entry of the reshaped value codes. -/
theorem v22_read (b : Fin 128) (r : Fin 1920) (p : Fin 128) : aVc (V11 m ρ) c (ix3 b r p) = A6 m c (ix4 b r 0 p) := by
  rw [v22_eq]
  generalize A6 m c = x
  pointwise

/-- One entry of the transposed value scales. -/
theorem v24_read (b : Fin 128) (g : Fin 8) (r : Fin 1920) : aVs (V11 m ρ) c (ix3 b g r) = A7 m c (ix4 b r 0 g) := by
  rw [v24_eq]
  generalize A7 m c = x
  pointwise

/-- One entry of the transposed value zeros. -/
theorem v26_read (b : Fin 128) (g : Fin 8) (r : Fin 1920) : aVz (V11 m ρ) c (ix3 b g r) = A8 m c (ix4 b r 0 g) := by
  rw [v26_eq]
  generalize A8 m c = x
  pointwise

/-- What the first call read, the second reads too. -/
theorem v11_of (r : Ref sig .tc) (h11 : r ∉ hostOps1_4_W) (h10 : r ∉ hostOps1_3_W) (h9 : r ∉ hostOps1_2_W) (h8 : r ∉ hostOps1_1_W)
    (h7 : r ∉ hostOps1_W) : W11 m ρ c (Proc.devRef .tc r) = W6 m ρ c (Proc.devRef .tc r) :=
  (W11_of m ρ c r h11).trans ((W10_of m ρ c r h10).trans ((W9_of m ρ c r h9).trans ((W8_of m ρ c r h8).trans (W7_of m ρ c r h7))))

/-- One entry of the tail keys at the second kernel's entry. -/
theorem kt_read (b r : Fin 128) (d : Fin 256) : aKt (V11 m ρ) c (ix3 b r d) = tailOf (A9 m c) b r d := by
  have h : W11 m ρ c (Proc.devRef .tc main_v0) = W5 m ρ c (Proc.devRef .tc main_v0) :=
    (v11_of m ρ c main_v0 (by decide) (by decide) (by decide) (by decide) (by decide)).trans (W6_of m ρ c main_v0 (by decide +kernel))
  exact (congrFun h _).trans (v0_read m ρ c b r d)

/-- One entry of the tail values at the second kernel's entry. -/
theorem vt_read (b r : Fin 128) (d : Fin 256) : aVt (V11 m ρ) c (ix3 b r d) = tailOf (A10 m c) b r d := by
  have h : W11 m ρ c (Proc.devRef .tc main_v1) = W5 m ρ c (Proc.devRef .tc main_v1) :=
    (v11_of m ρ c main_v1 (by decide) (by decide) (by decide) (by decide) (by decide)).trans (W6_of m ρ c main_v1 (by decide +kernel))
  exact (congrFun h _).trans (v1_read m ρ c b r d)

/-- The dequantised new key at the second kernel's entry is what the first kernel wrote. -/
theorem kd_eq : aKd (V11 m ρ) c = (dat0 (V5 m ρ) c).arrAt 10 cfg0.N :=
  (v11_of m ρ c main_v17_6 (by decide) (by decide) (by decide) (by decide) (by decide)).trans (W6_arr m ρ c 10)

/-- The dequantised new value at the second kernel's entry is what the first kernel wrote. -/
theorem vd_eq : aVd (V11 m ρ) c = (dat0 (V5 m ρ) c).arrAt 11 cfg0.N :=
  (v11_of m ρ c main_v17_7 (by decide) (by decide) (by decide) (by decide) (by decide)).trans (W6_arr m ρ c 11)

/-- The table that reads packed channels in order, which the host builds from two index tables. -/
def permTable : FVec Ideal S256x256 .bf16 :=
  truncf .bf16
    (select
      (cmpi .eq (iotaInDim S256x256 32 0)
        (select
          (cmpi .slt (iotaInDim S256x256 32 1) (broadcastInDim S256x256 ![] bcast_S_S256x256 (constantI S_ 32 128#32)))
          (muli (broadcastInDim S256x256 ![] bcast_S_S256x256 (constantI S_ 32 2#32)) (iotaInDim S256x256 32 1))
          (addi (muli (broadcastInDim S256x256 ![] bcast_S_S256x256 (constantI S_ 32 2#32))
            (subi (iotaInDim S256x256 32 1) (broadcastInDim S256x256 ![] bcast_S_S256x256 (constantI S_ 32 128#32))))
            (broadcastInDim S256x256 ![] bcast_S_S256x256 (constantI S_ 32 1#32)))))
      (broadcastInDim S256x256 ![] bcast_S_S256x256 (constant S_ .f32 0x3F800000#32))
      (broadcastInDim S256x256 ![] bcast_S_S256x256 (constant S_ .f32 0x00000000#32)))
    bitsLt_bf16_f32

/-- The permutation matrix the second kernel receives is the table `permTable`. -/
theorem v42_eq : aP (V11 m ρ) c = permTable := by
  show StableHlo.after hostOps1_4 (W10 m ρ c) (Proc.devRef .tc main_v42) = _
  entry_read
  rfl

/-- The word arithmetic of the permutation table: position `k` holds channel `chan k`. -/
theorem chan_word (k : Fin 256) :
    Scalar.select (IntOp.cmpi .slt (BitVec.ofNat 32 k.val) 128#32) (2#32 * BitVec.ofNat 32 k.val)
      (2#32 * (BitVec.ofNat 32 k.val - 128#32) + 1#32) = BitVec.ofNat 32 (chan k).val :=
  (by decide +kernel : ∀ k : Fin 256, Scalar.select (IntOp.cmpi .slt (BitVec.ofNat 32 k.val) 128#32) (2#32 * BitVec.ofNat 32 k.val)
      (2#32 * (BitVec.ofNat 32 k.val - 128#32) + 1#32) = BitVec.ofNat 32 (chan k).val) k

/-- The permutation table: one where row `i` is the channel at position `k`, zero elsewhere. -/
theorem permTable_apply (i k : Fin 256) : permTable (ix2 i k) = if i = chan k then 1 else 0 := by
  have e1 : (BitVec.ofNat 32 i.val = BitVec.ofNat 32 (chan k).val) = (i = chan k) := by
    rw [BitVec.toNat_inj.symm, Fin.ext_iff]; have := (chan k).isLt; simp; omega
  pointwise [permTable]
  refine (select_eq _ _ _ _).trans ?_
  refine if_congr (iff_of_eq (Eq.trans ?_ e1)) rfl rfl
  exact congrArg (BitVec.ofNat 32 i.val = ·) (chan_word k)

end Kivi
-- ==== Proof.KResult.lean ====
module

public import proofs.«01_k».proof.Proof.KQuant
public import proofs.«01_k».proof.Proof.Host

/-! # The kernel's seven result arrays -/

@[expose] public section

set_option maxRecDepth 16384

noncomputable section

namespace Kivi

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg) (c : Dev nD)

/-- The tail keys of sequence `b` in terms of the arguments. -/
theorem seqT_eq (b : Fin 128) : seqT (V5 m ρ) c b = tailOf (A9 m c) b := by
  funext r d; exact v0_read m ρ c b r d

/-- The new key of sequence `b` in terms of the arguments. -/
theorem seqK_eq (b : Fin 128) : seqK (V5 m ρ) c b = newOf (A1 m c) b := by
  funext d; exact v2_read m ρ c b d

/-- The new value of sequence `b` in terms of the arguments. -/
theorem seqV_eq (b : Fin 128) : seqV (V5 m ρ) c b = newOf (A2 m c) b := by
  funext d; exact v3_read m ρ c b d

/-- The matrix the first kernel receives is a packing matrix. -/
theorem isPack : IsPack (nP (V5 m ρ) c) := fun l i =>
  (congrFun (v16_eq m ρ c) (ix2 i l)).trans (packTable_apply i l)

/-! ## The attention call's keys and values -/

/-- Equal codes, scales, zeros, tail and new key give equal keys. -/
theorem tokK_congr {codes codes' : Fin 1920 → Fin 128 → BitVec 8} {s s' z z' : Fin 60 → Fin 256 → EReal}
    {tail tail' : Fin 128 → Fin 256 → EReal} {new new' : Fin 256 → EReal} (h1 : ∀ r p, codes r p = codes' r p)
    (h2 : ∀ r d, s r d = s' r d) (h3 : ∀ r d, z r d = z' r d) (h4 : ∀ r d, tail r d = tail' r d) (h5 : ∀ d, new d = new' d) :
    tokK codes s z tail new = tokK codes' s' z' tail' new' := by
  obtain rfl : codes = codes' := funext fun r => funext (h1 r)
  obtain rfl : s = s' := funext fun r => funext (h2 r)
  obtain rfl : z = z' := funext fun r => funext (h3 r)
  obtain rfl : tail = tail' := funext fun r => funext (h4 r)
  obtain rfl : new = new' := funext h5
  rfl

/-- Equal codes, scales, zeros, tail and new value give equal values. -/
theorem tokV_congr {codes codes' : Fin 1920 → Fin 128 → BitVec 8} {s s' z z' : Fin 1920 → Fin 8 → EReal}
    {tail tail' : Fin 128 → Fin 256 → EReal} {new new' : Fin 256 → EReal} (h1 : ∀ r p, codes r p = codes' r p)
    (h2 : ∀ r d, s r d = s' r d) (h3 : ∀ r d, z r d = z' r d) (h4 : ∀ r d, tail r d = tail' r d) (h5 : ∀ d, new d = new' d) :
    tokV codes s z tail new = tokV codes' s' z' tail' new' := by
  obtain rfl : codes = codes' := funext fun r => funext (h1 r)
  obtain rfl : s = s' := funext fun r => funext (h2 r)
  obtain rfl : z = z' := funext fun r => funext (h3 r)
  obtain rfl : tail = tail' := funext fun r => funext (h4 r)
  obtain rfl : new = new' := funext h5
  rfl

/-- Equal query, keys and values give equal attention. -/
theorem attn_congr {q q' : Fin 256 → EReal} {K K' V V' : Fin 2049 → Fin 256 → EReal} (hq : ∀ d, q d = q' d) (hK : K = K') (hV : V = V')
    (d : Fin 256) : attn q K V d = attn q' K' V' d := by
  obtain rfl : q = q' := funext hq
  rw [hK, hV]

/-- The dequantised new key in terms of the arguments. -/
theorem kDeq_eq (b : Fin 128) (d : Fin 256) : kDeq (seqT (V5 m ρ) c b) (seqK (V5 m ρ) c b) d = kDeq (tailOf (A9 m c) b) (newOf (A1 m c) b) d := by
  rw [seqT_eq, seqK_eq]

/-- The dequantised new value in terms of the arguments. -/
theorem vDeq_eq (b : Fin 128) (d : Fin 256) : vDeq (seqV (V5 m ρ) c b) d = vDeq (newOf (A2 m c) b) d := by
  rw [seqV_eq]

/-- The keys the second kernel attends to, in terms of the arguments. -/
theorem keys_eq (b : Fin 128) : arrK (V11 m ρ) c b = keysOf (A1 m c) (A3 m c) (A4 m c) (A5 m c) (A9 m c) b :=
  tokK_congr (fun r p => v19_read m ρ c b r p) (fun r d => v20_read m ρ c b r d) (fun r d => v21_read m ρ c b r d)
    (fun r d => kt_read m ρ c b r d)
    (fun d => (congrFun ((kd_eq m ρ c).trans (quant_kdeq (V5 m ρ) c)) (ix3 b 0 d)).trans (kDeq_eq m ρ c b d))

/-- The values the second kernel attends to, in terms of the arguments. -/
theorem values_eq (b : Fin 128) : arrV (V11 m ρ) c b = valuesOf (A2 m c) (A6 m c) (A7 m c) (A8 m c) (A10 m c) b :=
  tokV_congr (fun r p => v22_read m ρ c b r p) (fun r g => v24_read m ρ c b g r) (fun r g => v26_read m ρ c b g r)
    (fun r d => vt_read m ρ c b r d)
    (fun d => (congrFun ((vd_eq m ρ c).trans (quant_vdeq (V5 m ρ) c)) (ix3 b 0 d)).trans (vDeq_eq m ρ c b d))

/-- The attention call's output array. -/
theorem v43_at (b : Fin 128) (h : Fin 16) (d : Fin 256) : (W12 m ρ c (Proc.devRef .tc main_v43) : Vec Ideal S128x16x256 .bf16) (ix3 b h d) =
    attn (fun d => A0 m c (ix3 b 0 ⟨h.val * 256 + d.val, by omega⟩))
      (keysOf (A1 m c) (A3 m c) (A4 m c) (A5 m c) (A9 m c) b) (valuesOf (A2 m c) (A6 m c) (A7 m c) (A8 m c) (A10 m c) b) d :=
  (congrFun ((W12_arr m ρ c 12).trans (attn_array (V11 m ρ) c fun i k =>
    (congrFun (v42_eq m ρ c) (ix2 i k)).trans (permTable_apply i k))) (ix3 b h d)).trans
    (attn_congr (fun d => v18_read m ρ c b h d) (keys_eq m ρ c b) (values_eq m ρ c b) d)

/-! ## The results -/

/-- The attention output. -/
theorem res44 : (W13 m ρ c (Proc.devRef .tc main_v44) : Vec Ideal S128x1x4096 .bf16)
    = resY (A0 m c) (A1 m c) (A2 m c) (A3 m c) (A4 m c) (A5 m c) (A6 m c) (A7 m c) (A8 m c) (A9 m c) (A10 m c) := by
  have e : (W13 m ρ c (Proc.devRef .tc main_v44) : Vec Ideal S128x1x4096 .bf16)
      = shapeCast S128x1x4096 (W12 m ρ c (Proc.devRef .tc main_v43) : Vec Ideal S128x16x256 .bf16) shapeCasts_S128x16x256_S128x1x4096 := by
    show StableHlo.after hostOps2 (W12 m ρ c) (Proc.devRef .tc main_v44) = _
    entry_read
    rfl
  have h := v43_at m ρ c
  rw [e]
  generalize (W12 m ρ c (Proc.devRef .tc main_v43) : Vec Ideal S128x16x256 .bf16) = y at h
  funext j
  idx_vars j
  pointwise
  exact h _ _ _

/-- An array of the quantising call is kept by everything after it. -/
theorem v12_of (r : Ref sig .tc) (h12 : ∀ w, Pipeline.arrRef spec1 w ≠ r) (h11 : r ∉ hostOps1_4_W) (h10 : r ∉ hostOps1_3_W)
    (h9 : r ∉ hostOps1_2_W) (h8 : r ∉ hostOps1_1_W) (h7 : r ∉ hostOps1_W) :
    W12 m ρ c (Proc.devRef .tc r) = W6 m ρ c (Proc.devRef .tc r) :=
  (W12_of_ne m ρ c r h12).trans (v11_of m ρ c r h11 h10 h9 h8 h7)

/-- The new key's packed codes after both kernels. -/
theorem kcodes_at (b : Fin 128) (p : Fin 128) : (W12 m ρ c (Proc.devRef .tc main_v17_0) : Vec Ideal S128x128 .i8) (ix2 b p)
    = kByte (tailOf (A9 m c) b) (newOf (A1 m c) b) p :=
  (congrFun (((v12_of m ρ c main_v17_0 (by decide) (by decide) (by decide) (by decide) (by decide) (by decide)).trans (W6_arr m ρ c 4)).trans
    (quant_kcodes (V5 m ρ) c (isPack m ρ c))) (ix2 b p)).trans
    (congrArg₂ (fun t k => kByte t k p) (seqT_eq m ρ c b) (seqK_eq m ρ c b))

/-- The new key's scales after both kernels. -/
theorem kscale_at (b : Fin 128) (d : Fin 256) : (W12 m ρ c (Proc.devRef .tc main_v17_1) : Vec Ideal S128x256 .f32) (ix2 b d)
    = kScale (tailOf (A9 m c) b) (newOf (A1 m c) b) d :=
  (congrFun (((v12_of m ρ c main_v17_1 (by decide) (by decide) (by decide) (by decide) (by decide) (by decide)).trans (W6_arr m ρ c 5)).trans
    (quant_kscale (V5 m ρ) c)) (ix2 b d)).trans
    (congrArg₂ (fun t k => kScale t k d) (seqT_eq m ρ c b) (seqK_eq m ρ c b))

/-- The new key's zeros after both kernels. -/
theorem kzero_at (b : Fin 128) (d : Fin 256) : (W12 m ρ c (Proc.devRef .tc main_v17_2) : Vec Ideal S128x256 .f32) (ix2 b d)
    = kLo (tailOf (A9 m c) b) (newOf (A1 m c) b) d :=
  (congrFun (((v12_of m ρ c main_v17_2 (by decide) (by decide) (by decide) (by decide) (by decide) (by decide)).trans (W6_arr m ρ c 6)).trans
    (quant_kzero (V5 m ρ) c)) (ix2 b d)).trans
    (congrArg₂ (fun t k => kLo t k d) (seqT_eq m ρ c b) (seqK_eq m ρ c b))

/-- The new value's packed codes after both kernels. -/
theorem vcodes_at (b : Fin 128) (p : Fin 128) : (W12 m ρ c (Proc.devRef .tc main_v17_3) : Vec Ideal S128x128 .i8) (ix2 b p)
    = vByte (newOf (A2 m c) b) p :=
  (congrFun (((v12_of m ρ c main_v17_3 (by decide) (by decide) (by decide) (by decide) (by decide) (by decide)).trans (W6_arr m ρ c 7)).trans
    (quant_vcodes (V5 m ρ) c (isPack m ρ c))) (ix2 b p)).trans
    (congrArg (fun t => vByte t p) (seqV_eq m ρ c b))

/-- The new value's scales after both kernels. -/
theorem vscale_at (g : Fin 8) (b : Fin 128) : (W12 m ρ c (Proc.devRef .tc main_v17_4) : Vec Ideal S8x128 .f32) (ix2 g b)
    = vScale (newOf (A2 m c) b) g :=
  (congrFun (((v12_of m ρ c main_v17_4 (by decide) (by decide) (by decide) (by decide) (by decide) (by decide)).trans (W6_arr m ρ c 8)).trans
    (quant_vscale (V5 m ρ) c)) (ix2 g b)).trans
    (congrArg (fun t => vScale t g) (seqV_eq m ρ c b))

/-- The new value's zeros after both kernels. -/
theorem vzero_at (g : Fin 8) (b : Fin 128) : (W12 m ρ c (Proc.devRef .tc main_v17_5) : Vec Ideal S8x128 .f32) (ix2 g b)
    = vLo (newOf (A2 m c) b) g :=
  (congrFun (((v12_of m ρ c main_v17_5 (by decide) (by decide) (by decide) (by decide) (by decide) (by decide)).trans (W6_arr m ρ c 9)).trans
    (quant_vzero (V5 m ρ) c)) (ix2 g b)).trans
    (congrArg (fun t => vLo t g) (seqV_eq m ρ c b))

/-- The new key's packed codes. -/
theorem res45 : (W13 m ρ c (Proc.devRef .tc main_v45) : Vec Ideal S128x1x1x128 .i8) = resKCodes (A1 m c) (A9 m c) := by
  have e : (W13 m ρ c (Proc.devRef .tc main_v45) : Vec Ideal S128x1x1x128 .i8)
      = shapeCast S128x1x1x128 (W12 m ρ c (Proc.devRef .tc main_v17_0) : Vec Ideal S128x128 .i8) shapeCasts_S128x128_S128x1x1x128 := by
    show StableHlo.after hostOps2 (W12 m ρ c) (Proc.devRef .tc main_v45) = _
    entry_read
    rfl
  have h := kcodes_at m ρ c
  rw [e]
  generalize (W12 m ρ c (Proc.devRef .tc main_v17_0) : Vec Ideal S128x128 .i8) = y at h
  funext j
  idx_vars j
  pointwise
  exact h _ _

/-- The new key's scales. -/
theorem res46 : (W13 m ρ c (Proc.devRef .tc main_v46) : Vec Ideal S128x1x1x256 .f32) = resKScale (A1 m c) (A9 m c) := by
  have e : (W13 m ρ c (Proc.devRef .tc main_v46) : Vec Ideal S128x1x1x256 .f32)
      = shapeCast S128x1x1x256 (W12 m ρ c (Proc.devRef .tc main_v17_1) : Vec Ideal S128x256 .f32) shapeCasts_S128x256_S128x1x1x256 := by
    show StableHlo.after hostOps2 (W12 m ρ c) (Proc.devRef .tc main_v46) = _
    entry_read
    rfl
  have h := kscale_at m ρ c
  rw [e]
  generalize (W12 m ρ c (Proc.devRef .tc main_v17_1) : Vec Ideal S128x256 .f32) = y at h
  funext j
  idx_vars j
  pointwise
  exact h _ _

/-- The new key's zeros. -/
theorem res47 : (W13 m ρ c (Proc.devRef .tc main_v47) : Vec Ideal S128x1x1x256 .f32) = resKZero (A1 m c) (A9 m c) := by
  have e : (W13 m ρ c (Proc.devRef .tc main_v47) : Vec Ideal S128x1x1x256 .f32)
      = shapeCast S128x1x1x256 (W12 m ρ c (Proc.devRef .tc main_v17_2) : Vec Ideal S128x256 .f32) shapeCasts_S128x256_S128x1x1x256 := by
    show StableHlo.after hostOps2 (W12 m ρ c) (Proc.devRef .tc main_v47) = _
    entry_read
    rfl
  have h := kzero_at m ρ c
  rw [e]
  generalize (W12 m ρ c (Proc.devRef .tc main_v17_2) : Vec Ideal S128x256 .f32) = y at h
  funext j
  idx_vars j
  pointwise
  exact h _ _

/-- The new value's packed codes. -/
theorem res48 : (W13 m ρ c (Proc.devRef .tc main_v48) : Vec Ideal S128x1x1x128 .i8) = resVCodes (A2 m c) := by
  have e : (W13 m ρ c (Proc.devRef .tc main_v48) : Vec Ideal S128x1x1x128 .i8)
      = shapeCast S128x1x1x128 (W12 m ρ c (Proc.devRef .tc main_v17_3) : Vec Ideal S128x128 .i8) shapeCasts_S128x128_S128x1x1x128 := by
    show StableHlo.after hostOps2 (W12 m ρ c) (Proc.devRef .tc main_v48) = _
    entry_read
    rfl
  have h := vcodes_at m ρ c
  rw [e]
  generalize (W12 m ρ c (Proc.devRef .tc main_v17_3) : Vec Ideal S128x128 .i8) = y at h
  funext j
  idx_vars j
  pointwise
  exact h _ _

/-- The new value's scales. -/
theorem res50 : (W13 m ρ c (Proc.devRef .tc main_v50) : Vec Ideal S128x1x1x8 .f32) = resVScale (A2 m c) := by
  have e : (W13 m ρ c (Proc.devRef .tc main_v50) : Vec Ideal S128x1x1x8 .f32)
      = shapeCast S128x1x1x8 (transpose S128x8 [1, 0] (W12 m ρ c (Proc.devRef .tc main_v17_4) : Vec Ideal S8x128 .f32) transposes_S8x128_S128x8_1_0) shapeCasts_S128x8_S128x1x1x8 := by
    show StableHlo.after hostOps2 (W12 m ρ c) (Proc.devRef .tc main_v50) = _
    entry_read
    rfl
  have h := vscale_at m ρ c
  rw [e]
  generalize (W12 m ρ c (Proc.devRef .tc main_v17_4) : Vec Ideal S8x128 .f32) = y at h
  funext j
  idx_vars j
  pointwise
  exact h _ _

/-- The new value's zeros. -/
theorem res52 : (W13 m ρ c (Proc.devRef .tc main_v52) : Vec Ideal S128x1x1x8 .f32) = resVZero (A2 m c) := by
  have e : (W13 m ρ c (Proc.devRef .tc main_v52) : Vec Ideal S128x1x1x8 .f32)
      = shapeCast S128x1x1x8 (transpose S128x8 [1, 0] (W12 m ρ c (Proc.devRef .tc main_v17_5) : Vec Ideal S8x128 .f32) transposes_S8x128_S128x8_1_0) shapeCasts_S128x8_S128x1x1x8 := by
    show StableHlo.after hostOps2 (W12 m ρ c) (Proc.devRef .tc main_v52) = _
    entry_read
    rfl
  have h := vzero_at m ρ c
  rw [e]
  generalize (W12 m ρ c (Proc.devRef .tc main_v17_5) : Vec Ideal S8x128 .f32) = y at h
  funext j
  idx_vars j
  pointwise
  exact h _ _

end Kivi
-- ==== Proof.Run.lean ====
module

public import proofs.«01_k».proof.Proof.KResult

/-! # The kernel's run, with its results -/

@[expose] public section

set_option maxRecDepth 16384

noncomputable section

namespace Kivi

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable (m : (ℓ : Loc nD τ sig) → Buf (Elt Ideal) ℓ) (ρ : Dev nD → PrngReg)

set_option backward.isDefEq.respectTransparency.types false in
set_option maxHeartbeats 4000000 in
/-- The kernel's run from any memory with zero counters: it ends, with the seven results as functions of the arguments and
    the arguments unchanged. -/
theorem run : θ_run defs (onTc (τ := τ) (main (F := Ideal))) ⟨m, fun _ => 0, ρ⟩ (fun r => ∀ c : Dev nD,
      r.2.mem ((c.tc : Thread nD τ).loc main_v44) = resY (A0 m c) (A1 m c) (A2 m c) (A3 m c) (A4 m c) (A5 m c) (A6 m c) (A7 m c) (A8 m c) (A9 m c) (A10 m c)
      ∧ r.2.mem ((c.tc : Thread nD τ).loc main_v45) = resKCodes (A1 m c) (A9 m c)
      ∧ r.2.mem ((c.tc : Thread nD τ).loc main_v46) = resKScale (A1 m c) (A9 m c)
      ∧ r.2.mem ((c.tc : Thread nD τ).loc main_v47) = resKZero (A1 m c) (A9 m c)
      ∧ r.2.mem ((c.tc : Thread nD τ).loc main_v48) = resVCodes (A2 m c)
      ∧ r.2.mem ((c.tc : Thread nD τ).loc main_v50) = resVScale (A2 m c)
      ∧ r.2.mem ((c.tc : Thread nD τ).loc main_v52) = resVZero (A2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h hz c =>
      ⟨(h c _ (mem_uc main_v44 (by decide))).trans (res44 m ρ c),
       (h c _ (mem_uc main_v45 (by decide))).trans (res45 m ρ c),
       (h c _ (mem_uc main_v46 (by decide))).trans (res46 m ρ c),
       (h c _ (mem_uc main_v47 (by decide))).trans (res47 m ρ c),
       (h c _ (mem_uc main_v48 (by decide))).trans (res48 m ρ c),
       (h c _ (mem_uc main_v50 (by decide))).trans (res50 m ρ c),
       (h c _ (mem_uc main_v52 (by decide))).trans (res52 m ρ c),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c)⟩)

end Kivi
-- ==== Proof.RefQuant.lean ====
module

public import proofs.«01_k».proof.Proof.Result
public import proofs.«01_k».proof.Proof.Gen.ReferenceIdeal.Read

/-! # The reference's quantiser: the new key and the new value -/

@[expose] public section

set_option maxRecDepth 16384

noncomputable section

namespace Kivi

open Idealize.ShloMosaic Idealize.ShloMosaic.TcCoe Idealize.SL.Sem Cert.ReferenceIdeal Cert.ReferenceIdeal.Gen Cert.ReferenceIdeal.Read

/-- The clip's upper bound is fifteen. -/
theorem clip_top : (FloatOps.sitofp .f32 15#32 : Ideal .f32) = Ideal.ofBits .f32 0x41700000#32 := by
  rw [fifteen]
  show (((15#32 : BitVec 32).toInt : ℝ) : EReal) = _
  rw [show (15#32 : BitVec 32).toInt = 15 by decide]
  norm_num

/-- The clip's lower bound is zero. -/
theorem clip_bot : (FloatOps.sitofp .f32 0#32 : Ideal .f32) = (0 : EReal) := by
  show (((0#32 : BitVec 32).toInt : ℝ) : EReal) = _
  norm_num

/-- The code as the reference computes it. -/
theorem ref_code (v s z : Ideal .f32) :
    (FloatOps.minimumf (FloatOps.sitofp .f32 15#32) (FloatOps.maximumf (FloatOps.sitofp .f32 0#32)
      (FloatOps.hostUnary .roundeven (FloatOps.hostDivf (FloatOps.subf v z) s))) : Ideal .f32) = codeOf v s z := by
  rw [clip_top, clip_bot]; rfl

/-- The scale as the reference computes it. -/
theorem ref_scale (lo hi : Ideal .f32) :
    Scalar.select (FloatOps.cmpf .ogt (FloatOps.subf hi lo) (FloatOps.ofBits .f32 0x00000000#32))
      (FloatOps.hostDivf (FloatOps.subf hi lo) (FloatOps.ofBits .f32 0x41700000#32)) (FloatOps.ofBits .f32 0x3F800000#32 : Ideal .f32)
      = scaleOf lo hi := by
  have h0 : (FloatOps.ofBits .f32 0x00000000#32 : Ideal .f32) = (0 : EReal) := Ideal.ofBits_zero _
  have h1 : (FloatOps.ofBits .f32 0x3F800000#32 : Ideal .f32) = (1 : EReal) := by
    show Ideal.ofBits .f32 0x3F800000#32 = 1
    simp [Ideal.ofBits, Ideal.ieee, -EReal.coe_mul]; norm_num
  rw [h0, h1]
  show (if BitVec.ofBool (decide ((hi : EReal) - lo > 0)) = 1#1 then _ else _) = _
  by_cases h : (0 : EReal) < (hi : EReal) - lo <;> simp [scaleOf, h] <;> rfl

/-- The low four bits of a byte widened to a word. -/
theorem low_nibble : ∀ x : BitVec 8, (IntOp.andi (BitVec.setWidth 32 x) 15#32).toInt = ((x.toNat % 16 : ℕ) : ℤ) := by
  decide +kernel

/-- The high four bits of a byte widened to a word. -/
theorem high_nibble : ∀ x : BitVec 8, (IntOp.shrsi .host (BitVec.setWidth 32 x) 4#32).toInt = ((x.toNat / 16 : ℕ) : ℤ) := by
  decide +kernel

/-- A byte's low nibble as the reference reads it. -/
theorem sitofp_low (x : BitVec 8) : (FloatOps.sitofp .f32 (IntOp.andi (BitVec.setWidth 32 x) 15#32) : Ideal .f32) = nib x 0 := by
  show (((IntOp.andi (BitVec.setWidth 32 x) 15#32).toInt : ℝ) : EReal) = _
  rw [low_nibble, nib, if_pos rfl]; norm_cast

/-- A byte's high nibble as the reference reads it. -/
theorem sitofp_high (x : BitVec 8) : (FloatOps.sitofp .f32 (IntOp.shrsi .host (BitVec.setWidth 32 x) 4#32) : Ideal .f32) = nib x 1 := by
  show (((IntOp.shrsi .host (BitVec.setWidth 32 x) 4#32).toInt : ℝ) : EReal) = _
  rw [high_nibble, nib, if_neg (by norm_num)]; norm_cast

/-- A code narrowed to a byte and widened again is itself. -/
theorem widen_code (v s z : EReal) :
    BitVec.setWidth 32 (BitVec.setWidth 8 (Ideal.fptosi 32 (codeOf v s z))) = Ideal.fptosi 32 (codeOf v s z) := by
  obtain ⟨n, hn, e⟩ := codeOf_nat v s z
  rw [e, fptosi_nat n (by omega)]
  have : ∀ a : Fin 16, BitVec.setWidth 32 (BitVec.setWidth 8 (BitVec.ofNat 32 a.val)) = BitVec.ofNat 32 a.val := by decide +kernel
  exact this ⟨n, hn⟩

/-- The low nibble of a byte of two codes is the first code. -/
theorem nib_byteOf_low (v s z v' s' z' : EReal) : nib (byteOf (codeOf v s z) (codeOf v' s' z')) 0 = codeOf v s z := by
  rw [← byteOf_codes]
  obtain ⟨n, hn, e⟩ := codeOf_nat v s z
  obtain ⟨k, hk, e'⟩ := codeOf_nat v' s' z'
  rw [e, e', fptosi_nat n (by omega), fptosi_nat k (by omega), nib, if_pos rfl]
  have : ∀ a b : Fin 16, (BitVec.setWidth 8 (BitVec.ofNat 32 a.val ||| BitVec.ofNat 32 b.val <<< 4)).toNat % 16 = a.val := by
    decide +kernel
  rw [this ⟨n, hn⟩ ⟨k, hk⟩]

/-- The high nibble of a byte of two codes is the second code. -/
theorem nib_byteOf_high (v s z v' s' z' : EReal) : nib (byteOf (codeOf v s z) (codeOf v' s' z')) 1 = codeOf v' s' z' := by
  rw [← byteOf_codes]
  obtain ⟨n, hn, e⟩ := codeOf_nat v s z
  obtain ⟨k, hk, e'⟩ := codeOf_nat v' s' z'
  rw [e, e', fptosi_nat n (by omega), fptosi_nat k (by omega), nib, if_neg (by norm_num)]
  have : ∀ a b : Fin 16, (BitVec.setWidth 8 (BitVec.ofNat 32 a.val ||| BitVec.ofNat 32 b.val <<< 4)).toNat / 16 = b.val := by
    decide +kernel
  rw [this ⟨n, hn⟩ ⟨k, hk⟩]

/-- The code of channel `d` of the new key, read out of its packed byte. -/
theorem nib_kByte (tail : Fin 128 → Fin 256 → EReal) (kn : Fin 256 → EReal) (d : Fin 256) :
    nib (kByte tail kn ⟨d.val / 2, by omega⟩) (d.val % 2) = kCode tail kn d := by
  rcases Nat.mod_two_eq_zero_or_one d.val with h | h
  · rw [h]
    refine (nib_byteOf_low _ _ _ _ _ _).trans (congrArg (kCode tail kn) (Fin.ext ?_))
    show 2 * (d.val / 2) = d.val; omega
  · rw [h]
    refine (nib_byteOf_high _ _ _ _ _ _).trans (congrArg (kCode tail kn) (Fin.ext ?_))
    show 2 * (d.val / 2) + 1 = d.val; omega

/-- The code of channel `d` of the new value, read out of its packed byte. -/
theorem nib_vByte (vn : Fin 256 → EReal) (d : Fin 256) : nib (vByte vn ⟨d.val / 2, by omega⟩) (d.val % 2) = vCode vn d := by
  rcases Nat.mod_two_eq_zero_or_one d.val with h | h
  · rw [h]
    refine (nib_byteOf_low _ _ _ _ _ _).trans (congrArg (vCode vn) (Fin.ext ?_))
    show 2 * (d.val / 2) = d.val; omega
  · rw [h]
    refine (nib_byteOf_high _ _ _ _ _ _).trans (congrArg (vCode vn) (Fin.ext ?_))
    show 2 * (d.val / 2) + 1 = d.val; omega

section Key

variable (x1 : Vec Ideal S128x1x1x256 .bf16) (x9 : Vec Ideal S128x128x1x256 .bf16) (b : Fin 128) (d : Fin 256)

/-- The window: the last 31 tail keys and the new key. -/
theorem ref_v4 (x : Fin 32) : val_main_v4 (F := Ideal) x1 x9 (ix3 b x d) = kWindow (tailOf x9 b) (newOf x1 b) d x := by
  pointwise [val_main_v4, val_main_v3, val_main_v2, val_main_v1]
  unfold kWindow
  split
  · rfl
  · refine congrArg (fun k => x1 (ix4 b k 0 d)) (Fin.ext ?_)
    show x.val - 31 = 0; omega

/-- The window's minimum. -/
theorem ref_v5 : val_main_v5 (F := Ideal) x1 x9 (ix2 b d) = kLo (tailOf x9 b) (newOf x1 b) d := by
  have h := ref_v4 x1 x9 b d
  unfold val_main_v5
  generalize val_main_v4 (F := Ideal) x1 x9 = y at h
  pointwise
  simp only [h]
  rfl

/-- The window's maximum. -/
theorem ref_v6 : val_main_v6 (F := Ideal) x1 x9 (ix2 b d) = kHi (tailOf x9 b) (newOf x1 b) d := by
  have h := ref_v4 x1 x9 b d
  unfold val_main_v6
  generalize val_main_v4 (F := Ideal) x1 x9 = y at h
  pointwise
  simp only [h]
  rfl

/-- The new key's scale. -/
theorem ref_v14 : val_main_v14 (F := Ideal) x1 x9 (ix2 b d) = kScale (tailOf x9 b) (newOf x1 b) d := by
  rw [val_main_v14_apply, val_main_v13_apply, val_main_v12_apply, val_main_v11_apply, val_main_v10_apply, val_main_v9_apply,
    val_main_v8_apply, val_main_v7_apply, ref_v5, ref_v6, val_main_call0_v1_apply, val_main_call0_v0_apply, val_main_cst_1_apply,
    val_main_cst_2_apply, val_main_cst_3_apply]
  exact ref_scale _ _

/-- The new key's zero. -/
theorem ref_v16 : val_main_v16 (F := Ideal) x1 x9 (ix2 b d) = kLo (tailOf x9 b) (newOf x1 b) d := by
  rw [val_main_v16_apply, val_main_v15_apply, ref_v5]; rfl

/-- The window's last row is the new key. -/
theorem ref_v18 : val_main_v18 (F := Ideal) x1 x9 (ix2 b d) = newOf x1 b d := by
  have h := ref_v4 x1 x9 b d 31
  unfold val_main_v18 val_main_v17
  generalize val_main_v4 (F := Ideal) x1 x9 = y at h
  pointwise
  rw [show y _ = _ from h]
  rfl

/-- The new key's code. -/
theorem ref_v22 : val_main_v22 (F := Ideal) x1 x9 (ix2 b d) = kCode (tailOf x9 b) (newOf x1 b) d := by
  rw [val_main_v22_apply, val_main_call2_v4_apply, val_main_call2_v3_apply, val_main_c_4_apply, val_main_call2_v2_apply,
    val_main_call2_v1_apply, val_main_call2_v0_apply, val_main_c_apply, val_main_v21_apply, val_main_v20_apply, val_main_v19_apply,
    ref_v18, ref_v16, ref_v14]
  exact ref_code _ _ _

/-- The new key's code as a word. -/
theorem ref_v26 : val_main_v26 (F := Ideal) x1 x9 (ix2 b d) = Ideal.fptosi 32 (kCode (tailOf x9 b) (newOf x1 b) d) := by
  rw [val_main_v26_apply, val_main_v25_apply, val_main_v24_apply, val_main_v23_apply, ref_v22]
  exact widen_code _ _ _

/-- The new key's packed byte. -/
theorem ref_v32 (p : Fin 128) : val_main_v32 (F := Ideal) x1 x9 (ix2 b p) = kByte (tailOf x9 b) (newOf x1 b) p := by
  have h1 : val_main_v27 (F := Ideal) x1 x9 (ix2 b p) = Ideal.fptosi 32 (kCode (tailOf x9 b) (newOf x1 b) ⟨2 * p.val, by omega⟩) := by
    have h := ref_v26 x1 x9 b ⟨2 * p.val, by omega⟩
    unfold val_main_v27
    generalize val_main_v26 (F := Ideal) x1 x9 = y at h
    pointwise
    exact h
  have h2 : val_main_v28 (F := Ideal) x1 x9 (ix2 b p) = Ideal.fptosi 32 (kCode (tailOf x9 b) (newOf x1 b) ⟨2 * p.val + 1, by omega⟩) := by
    have h := ref_v26 x1 x9 b ⟨2 * p.val + 1, by omega⟩
    unfold val_main_v28
    generalize val_main_v26 (F := Ideal) x1 x9 = y at h
    pointwise
    refine Eq.trans (congrArg (fun k => y (ix2 b k)) (Fin.ext ?_)) h
    show 1 + 2 * p.val = 2 * p.val + 1; omega
  rw [val_main_v32_apply, val_main_v31_apply, val_main_v30_apply, val_main_v29_apply, val_main_c_5_apply, h1, h2]
  exact byteOf_codes _ _ _ _ _ _

/-- The low nibble of the new key's packed byte. -/
theorem ref_v35 (p : Fin 128) : (FloatOps.sitofp .f32 (val_main_v35 (F := Ideal) x1 x9 (ix2 b p)) : Ideal .f32)
    = nib (kByte (tailOf x9 b) (newOf x1 b) p) 0 := by
  rw [val_main_v35_apply, val_main_v34_apply, val_main_v33_apply, val_main_c_6_apply, ref_v32]
  exact sitofp_low _

/-- The high nibble of the new key's packed byte. -/
theorem ref_v37 (p : Fin 128) : (FloatOps.sitofp .f32 (val_main_v37 (F := Ideal) x1 x9 (ix2 b p)) : Ideal .f32)
    = nib (kByte (tailOf x9 b) (newOf x1 b) p) 1 := by
  rw [val_main_v37_apply, val_main_v36_apply, val_main_v33_apply, val_main_c_7_apply, ref_v32]
  exact sitofp_high _

/-- The codes unpacked again. -/
theorem ref_v41 (d : Fin 256) : (FloatOps.sitofp .f32 (val_main_v41 (F := Ideal) x1 x9 (ix2 b d)) : Ideal .f32)
    = kCode (tailOf x9 b) (newOf x1 b) d := by
  refine Eq.trans ?_ (nib_kByte (tailOf x9 b) (newOf x1 b) d)
  have h0 := ref_v35 x1 x9 b ⟨d.val / 2, by omega⟩
  have h1 := ref_v37 x1 x9 b ⟨d.val / 2, by omega⟩
  unfold val_main_v41 val_main_v40 val_main_v39 val_main_v38
  generalize val_main_v35 (F := Ideal) x1 x9 = y at h0
  generalize val_main_v37 (F := Ideal) x1 x9 = z at h1
  pointwise
  split
  · rename_i h
    exact h0.trans (congrArg (nib _) (by omega))
  · rename_i h
    exact h1.trans (congrArg (nib _) (by omega))

/-- The dequantised new key. -/
theorem ref_v47 : val_main_v47 (F := Ideal) x1 x9 (ix2 b d) = kDeq (tailOf x9 b) (newOf x1 b) d := by
  rw [val_main_v47_apply, val_main_v46_apply, val_main_v45_apply, val_main_v44_apply, val_main_v43_apply, val_main_v42_apply, ref_v41,
    ref_v14, ref_v16]
  rfl

/-- The new key's scales. -/
theorem ref_v166 : val_main_v166 (F := Ideal) x1 x9 = resKScale x1 x9 := by
  funext j
  idx_vars j
  unfold val_main_v166
  have h := ref_v14 x1 x9
  generalize val_main_v14 (F := Ideal) x1 x9 = y at h
  pointwise
  exact h _ _

/-- The new key's zeros. -/
theorem ref_v167 : val_main_v167 (F := Ideal) x1 x9 = resKZero x1 x9 := by
  funext j
  idx_vars j
  unfold val_main_v167
  have h := ref_v16 x1 x9
  generalize val_main_v16 (F := Ideal) x1 x9 = y at h
  pointwise
  exact h _ _

/-- The new key's packed codes. -/
theorem ref_v165 : val_main_v165 (F := Ideal) x1 x9 = resKCodes x1 x9 := by
  funext j
  idx_vars j
  unfold val_main_v165
  have h := ref_v32 x1 x9
  generalize val_main_v32 (F := Ideal) x1 x9 = y at h
  pointwise
  exact h _ _

end Key

section Value

variable (x2 : Vec Ideal S128x1x1x256 .bf16) (b : Fin 128)

/-- The new value in groups of 32. -/
theorem ref_v49 (g : Fin 8) (l : Fin 32) : val_main_v49 (F := Ideal) x2 (ix3 b g l) = vGroup (newOf x2 b) g l := by
  pointwise [val_main_v49, val_main_v48]
  rfl

/-- A group's minimum. -/
theorem ref_v50 (g : Fin 8) : val_main_v50 (F := Ideal) x2 (ix2 b g) = vLo (newOf x2 b) g := by
  have h := ref_v49 x2 b
  unfold val_main_v50
  generalize val_main_v49 (F := Ideal) x2 = y at h
  pointwise
  simp only [h]
  rfl

/-- A group's maximum. -/
theorem ref_v51 (g : Fin 8) : val_main_v51 (F := Ideal) x2 (ix2 b g) = vHi (newOf x2 b) g := by
  have h := ref_v49 x2 b
  unfold val_main_v51
  generalize val_main_v49 (F := Ideal) x2 = y at h
  pointwise
  simp only [h]
  rfl

/-- A group's scale. -/
theorem ref_v59 (g : Fin 8) : val_main_v59 (F := Ideal) x2 (ix2 b g) = vScale (newOf x2 b) g := by
  rw [val_main_v59_apply, val_main_v58_apply, val_main_v57_apply, val_main_v56_apply, val_main_v55_apply, val_main_v54_apply,
    val_main_v53_apply, val_main_v52_apply, ref_v50, ref_v51, val_main_call3_v1_apply, val_main_call3_v0_apply, val_main_cst_10_apply,
    val_main_cst_11_apply, val_main_cst_12_apply]
  exact ref_scale _ _

/-- A group's zero. -/
theorem ref_v61 (g : Fin 8) : val_main_v61 (F := Ideal) x2 (ix2 b g) = vLo (newOf x2 b) g := by
  rw [val_main_v61_apply, val_main_v60_apply, ref_v50]; rfl

/-- A group's zero, repeated over its channels. -/
theorem ref_v64 (g : Fin 8) (l : Fin 32) : val_main_v64 (F := Ideal) x2 (ix3 b g l) = vLo (newOf x2 b) g := by
  have h := ref_v61 x2 b g
  unfold val_main_v64 val_main_v63
  generalize val_main_v61 (F := Ideal) x2 = y at h
  pointwise
  exact h

/-- A group's scale, repeated over its channels. -/
theorem ref_v66 (g : Fin 8) (l : Fin 32) : val_main_v66 (F := Ideal) x2 (ix3 b g l) = vScale (newOf x2 b) g := by
  have h := ref_v59 x2 b g
  unfold val_main_v66 val_main_v62
  generalize val_main_v59 (F := Ideal) x2 = y at h
  pointwise
  exact h

/-- The code of channel `l` of group `g`. -/
theorem vCode_group (g : Fin 8) (l : Fin 32) (h : g.val * 32 + l.val < 256) : codeOf (vGroup (newOf x2 b) g l) (vScale (newOf x2 b) g)
    (vLo (newOf x2 b) g) = vCode (newOf x2 b) ⟨g.val * 32 + l.val, h⟩ := by
  have e : (⟨(g.val * 32 + l.val) / 32, by omega⟩ : Fin 8) = g := Fin.ext (by show (g.val * 32 + l.val) / 32 = g.val; omega)
  unfold vCode
  simp only [e]
  rfl

/-- The new value's code. -/
theorem ref_v69 (g : Fin 8) (l : Fin 32) : val_main_v69 (F := Ideal) x2 (ix3 b g l) = vCode (newOf x2 b) ⟨g.val * 32 + l.val, by omega⟩ := by
  rw [val_main_v69_apply, val_main_call5_v4_apply, val_main_call5_v3_apply, val_main_c_14_apply, val_main_call5_v2_apply,
    val_main_call5_v1_apply, val_main_call5_v0_apply, val_main_c_13_apply, val_main_v68_apply, val_main_v67_apply, val_main_v65_apply,
    ref_v49, ref_v64, ref_v66]
  exact (ref_code _ _ _).trans (vCode_group x2 b g l _)

/-- The new value's code as a word. -/
theorem ref_v74 (d : Fin 256) : val_main_v74 (F := Ideal) x2 (ix2 b d) = Ideal.fptosi 32 (vCode (newOf x2 b) d) := by
  have h72 : val_main_v72 (F := Ideal) x2 (ix2 b d) = BitVec.setWidth 8 (Ideal.fptosi 32 (vCode (newOf x2 b) d)) := by
    have h := ref_v69 x2 b ⟨d.val / 32, by omega⟩ ⟨d.val % 32, by omega⟩
    unfold val_main_v72 val_main_v71 val_main_v70
    generalize val_main_v69 (F := Ideal) x2 = y at h
    pointwise
    refine (congrArg (fun k => BitVec.setWidth 8 (Ideal.fptosi 32 k)) h).trans ?_
    refine congrArg (fun k => BitVec.setWidth 8 (Ideal.fptosi 32 (vCode (newOf x2 b) k))) (Fin.ext ?_)
    show d.val / 32 * 32 + d.val % 32 = d.val; omega
  rw [val_main_v74_apply, val_main_v73_apply, h72]
  exact widen_code _ _ _

/-- The new value's packed byte. -/
theorem ref_v80 (p : Fin 128) : val_main_v80 (F := Ideal) x2 (ix2 b p) = vByte (newOf x2 b) p := by
  have h1 : val_main_v75 (F := Ideal) x2 (ix2 b p) = Ideal.fptosi 32 (vCode (newOf x2 b) ⟨2 * p.val, by omega⟩) := by
    have h := ref_v74 x2 b ⟨2 * p.val, by omega⟩
    unfold val_main_v75
    generalize val_main_v74 (F := Ideal) x2 = y at h
    pointwise
    exact h
  have h2 : val_main_v76 (F := Ideal) x2 (ix2 b p) = Ideal.fptosi 32 (vCode (newOf x2 b) ⟨2 * p.val + 1, by omega⟩) := by
    have h := ref_v74 x2 b ⟨2 * p.val + 1, by omega⟩
    unfold val_main_v76
    generalize val_main_v74 (F := Ideal) x2 = y at h
    pointwise
    refine Eq.trans (congrArg (fun k => y (ix2 b k)) (Fin.ext ?_)) h
    show 1 + 2 * p.val = 2 * p.val + 1; omega
  rw [val_main_v80_apply, val_main_v79_apply, val_main_v78_apply, val_main_v77_apply, val_main_c_15_apply, h1, h2]
  exact byteOf_codes _ _ _ _ _ _

/-- The low nibble of the new value's packed byte. -/
theorem ref_v83 (p : Fin 128) : (FloatOps.sitofp .f32 (val_main_v83 (F := Ideal) x2 (ix2 b p)) : Ideal .f32)
    = nib (vByte (newOf x2 b) p) 0 := by
  rw [val_main_v83_apply, val_main_v82_apply, val_main_v81_apply, val_main_c_16_apply, ref_v80]
  exact sitofp_low _

/-- The high nibble of the new value's packed byte. -/
theorem ref_v85 (p : Fin 128) : (FloatOps.sitofp .f32 (val_main_v85 (F := Ideal) x2 (ix2 b p)) : Ideal .f32)
    = nib (vByte (newOf x2 b) p) 1 := by
  rw [val_main_v85_apply, val_main_v84_apply, val_main_v81_apply, val_main_c_17_apply, ref_v80]
  exact sitofp_high _

/-- The codes unpacked again. -/
theorem ref_v89 (d : Fin 256) : (FloatOps.sitofp .f32 (val_main_v89 (F := Ideal) x2 (ix2 b d)) : Ideal .f32)
    = vCode (newOf x2 b) d := by
  refine Eq.trans ?_ (nib_vByte (newOf x2 b) d)
  have h0 := ref_v83 x2 b ⟨d.val / 2, by omega⟩
  have h1 := ref_v85 x2 b ⟨d.val / 2, by omega⟩
  unfold val_main_v89 val_main_v88 val_main_v87 val_main_v86
  generalize val_main_v83 (F := Ideal) x2 = y at h0
  generalize val_main_v85 (F := Ideal) x2 = z at h1
  pointwise
  split
  · rename_i h
    exact h0.trans (congrArg (nib _) (by omega))
  · rename_i h
    exact h1.trans (congrArg (nib _) (by omega))

/-- The new value's unpacked codes, in groups. -/
theorem ref_v92 (g : Fin 8) (l : Fin 32) : val_main_v92 (F := Ideal) x2 (ix3 b g l) = vCode (newOf x2 b) ⟨g.val * 32 + l.val, by omega⟩ := by
  have h := ref_v89 x2 b ⟨g.val * 32 + l.val, by omega⟩
  unfold val_main_v92 val_main_v91 val_main_v90
  generalize val_main_v89 (F := Ideal) x2 = y at h
  pointwise
  exact h

/-- A group's scale, repeated over its channels, for the dequantisation. -/
theorem ref_v95 (g : Fin 8) (l : Fin 32) : val_main_v95 (F := Ideal) x2 (ix3 b g l) = vScale (newOf x2 b) g := by
  have h := ref_v59 x2 b g
  unfold val_main_v95 val_main_v94 val_main_v93
  generalize val_main_v59 (F := Ideal) x2 = y at h
  pointwise
  exact h

/-- A group's zero, repeated over its channels, for the dequantisation. -/
theorem ref_v99 (g : Fin 8) (l : Fin 32) : val_main_v99 (F := Ideal) x2 (ix3 b g l) = vLo (newOf x2 b) g := by
  have h := ref_v61 x2 b g
  unfold val_main_v99 val_main_v98 val_main_v97
  generalize val_main_v61 (F := Ideal) x2 = y at h
  pointwise
  exact h

/-- The dequantised new value, in groups. -/
theorem ref_v100 (g : Fin 8) (l : Fin 32) : val_main_v100 (F := Ideal) x2 (ix3 b g l)
    = vCode (newOf x2 b) ⟨g.val * 32 + l.val, by omega⟩ * vScale (newOf x2 b) g + vLo (newOf x2 b) g := by
  rw [val_main_v100_apply, val_main_v96_apply, ref_v92, ref_v95, ref_v99]
  rfl

/-- The dequantised new value. -/
theorem ref_v145 (d : Fin 256) : val_main_v145 (F := Ideal) x2 (ix3 b 0 d) = vDeq (newOf x2 b) d := by
  have h := ref_v100 x2 b ⟨d.val / 32, by omega⟩ ⟨d.val % 32, by omega⟩
  unfold val_main_v145
  generalize val_main_v100 (F := Ideal) x2 = y at h
  pointwise
  refine h.trans ?_
  have e : (⟨d.val / 32 * 32 + d.val % 32, by omega⟩ : Fin 256) = d := Fin.ext (by show d.val / 32 * 32 + d.val % 32 = d.val; omega)
  simp only [e]
  rfl

/-- The new value's packed codes. -/
theorem ref_v168 : val_main_v168 (F := Ideal) x2 = resVCodes x2 := by
  funext j
  idx_vars j
  unfold val_main_v168
  have h := ref_v80 x2
  generalize val_main_v80 (F := Ideal) x2 = y at h
  pointwise
  exact h _ _

/-- The new value's scales. -/
theorem ref_v169 : val_main_v169 (F := Ideal) x2 = resVScale x2 := by
  funext j
  idx_vars j
  unfold val_main_v169
  have h := ref_v59 x2
  generalize val_main_v59 (F := Ideal) x2 = y at h
  pointwise
  exact h _ _

/-- The new value's zeros. -/
theorem ref_v170 : val_main_v170 (F := Ideal) x2 = resVZero x2 := by
  funext j
  idx_vars j
  unfold val_main_v170
  have h := ref_v61 x2
  generalize val_main_v61 (F := Ideal) x2 = y at h
  pointwise
  exact h _ _

end Value

end Kivi
-- ==== Proof.RefAttn.lean ====
module

public import proofs.«01_k».proof.Proof.RefQuant

/-! # The reference's attention -/

@[expose] public section

set_option maxRecDepth 16384

noncomputable section

namespace Kivi

open Idealize.ShloMosaic Idealize.ShloMosaic.TcCoe Idealize.SL.Sem Cert.ReferenceIdeal Cert.ReferenceIdeal.Gen Cert.ReferenceIdeal.Read

section Cache

variable (x3 : Vec Ideal S128x1920x1x128 .i8) (x4 x5 : Vec Ideal S128x60x1x256 .f32) (x6 : Vec Ideal S128x1920x1x128 .i8)
  (x7 x8 : Vec Ideal S128x1920x1x8 .f32) (b : Fin 128)

/-- The low nibbles of the cached keys' codes. -/
theorem ref_v103 (t : Fin 1920) (p : Fin 128) : (FloatOps.sitofp .f32 (val_main_v103 (F := Ideal) x3 (ix4 b t 0 p)) : Ideal .f32)
    = nib (x3 (ix4 b t 0 p)) 0 := by
  rw [val_main_v103_apply, val_main_v102_apply, val_main_v101_apply, val_main_c_18_apply]
  exact sitofp_low _

/-- The high nibbles of the cached keys' codes. -/
theorem ref_v105 (t : Fin 1920) (p : Fin 128) : (FloatOps.sitofp .f32 (val_main_v105 (F := Ideal) x3 (ix4 b t 0 p)) : Ideal .f32)
    = nib (x3 (ix4 b t 0 p)) 1 := by
  rw [val_main_v105_apply, val_main_v104_apply, val_main_v101_apply, val_main_c_19_apply]
  exact sitofp_high _

/-- The cached keys' codes, unpacked. -/
theorem ref_v109 (t : Fin 1920) (d : Fin 256) : (FloatOps.sitofp .f32 (val_main_v109 (F := Ideal) x3 (ix4 b t 0 d)) : Ideal .f32)
    = nib (x3 (ix4 b t 0 ⟨d.val / 2, by omega⟩)) (d.val % 2) := by
  have h0 := ref_v103 x3 b t ⟨d.val / 2, by omega⟩
  have h1 := ref_v105 x3 b t ⟨d.val / 2, by omega⟩
  unfold val_main_v109 val_main_v108 val_main_v107 val_main_v106
  generalize val_main_v103 (F := Ideal) x3 = y at h0
  generalize val_main_v105 (F := Ideal) x3 = z at h1
  pointwise
  split
  · rename_i h
    exact h0.trans (congrArg (nib _) (by omega))
  · rename_i h
    exact h1.trans (congrArg (nib _) (by omega))

/-- The cached keys, dequantised. -/
theorem ref_v139 (t : Fin 1920) (d : Fin 256) : val_main_v139 (F := Ideal) x3 x4 x5 (ix3 b t d) =
    nib (x3 (ix4 b t 0 ⟨d.val / 2, by omega⟩)) (d.val % 2) * x4 (ix4 b ⟨t.val / 32, by omega⟩ 0 d) + x5 (ix4 b ⟨t.val / 32, by omega⟩ 0 d) := by
  have h := ref_v109 x3 b t d
  unfold val_main_v139 val_main_v118 val_main_v117 val_main_v116 val_main_v115 val_main_v114 val_main_v113 val_main_v112 val_main_v111 val_main_v110
  generalize val_main_v109 (F := Ideal) x3 = y at h
  pointwise
  exact congrArg (fun k => k * x4 (ix4 b ⟨t.val / 32, by omega⟩ 0 d) + x5 (ix4 b ⟨t.val / 32, by omega⟩ 0 d)) h

/-- The low nibbles of the cached values' codes. -/
theorem ref_v121 (t : Fin 1920) (p : Fin 128) : (FloatOps.sitofp .f32 (val_main_v121 (F := Ideal) x6 (ix4 b t 0 p)) : Ideal .f32)
    = nib (x6 (ix4 b t 0 p)) 0 := by
  rw [val_main_v121_apply, val_main_v120_apply, val_main_v119_apply, val_main_c_20_apply]
  exact sitofp_low _

/-- The high nibbles of the cached values' codes. -/
theorem ref_v123 (t : Fin 1920) (p : Fin 128) : (FloatOps.sitofp .f32 (val_main_v123 (F := Ideal) x6 (ix4 b t 0 p)) : Ideal .f32)
    = nib (x6 (ix4 b t 0 p)) 1 := by
  rw [val_main_v123_apply, val_main_v122_apply, val_main_v119_apply, val_main_c_21_apply]
  exact sitofp_high _

/-- The cached values' codes, unpacked. -/
theorem ref_v127 (t : Fin 1920) (d : Fin 256) : (FloatOps.sitofp .f32 (val_main_v127 (F := Ideal) x6 (ix4 b t 0 d)) : Ideal .f32)
    = nib (x6 (ix4 b t 0 ⟨d.val / 2, by omega⟩)) (d.val % 2) := by
  have h0 := ref_v121 x6 b t ⟨d.val / 2, by omega⟩
  have h1 := ref_v123 x6 b t ⟨d.val / 2, by omega⟩
  unfold val_main_v127 val_main_v126 val_main_v125 val_main_v124
  generalize val_main_v121 (F := Ideal) x6 = y at h0
  generalize val_main_v123 (F := Ideal) x6 = z at h1
  pointwise
  split
  · rename_i h
    exact h0.trans (congrArg (nib _) (by omega))
  · rename_i h
    exact h1.trans (congrArg (nib _) (by omega))

/-- The cached values, dequantised. -/
theorem ref_v143 (t : Fin 1920) (d : Fin 256) : val_main_v143 (F := Ideal) x6 x7 x8 (ix3 b t d) =
    nib (x6 (ix4 b t 0 ⟨d.val / 2, by omega⟩)) (d.val % 2) * x7 (ix4 b t 0 ⟨d.val / 32, by omega⟩) + x8 (ix4 b t 0 ⟨d.val / 32, by omega⟩) := by
  have h := ref_v127 x6 b t d
  unfold val_main_v143 val_main_v138 val_main_v137 val_main_v136 val_main_v135 val_main_v134 val_main_v133 val_main_v132 val_main_v131 val_main_v130
    val_main_v129 val_main_v128
  generalize val_main_v127 (F := Ideal) x6 = y at h
  pointwise
  exact congrArg (fun k => k * x7 (ix4 b t 0 ⟨d.val / 32, by omega⟩) + x8 (ix4 b t 0 ⟨d.val / 32, by omega⟩)) h

end Cache

section Attn

variable (x0 : Vec Ideal S128x1x4096 .bf16) (x1 x2 : Vec Ideal S128x1x1x256 .bf16) (x3 : Vec Ideal S128x1920x1x128 .i8)
  (x4 x5 : Vec Ideal S128x60x1x256 .f32) (x6 : Vec Ideal S128x1920x1x128 .i8) (x7 x8 : Vec Ideal S128x1920x1x8 .f32)
  (x9 x10 : Vec Ideal S128x128x1x256 .bf16) (b : Fin 128)

/-- All 2049 keys. -/
theorem ref_v142 (t : Fin 2049) (d : Fin 256) : val_main_v142 (F := Ideal) x1 x3 x4 x5 x9 (ix3 b t d) = keysOf x1 x3 x4 x5 x9 b t d := by
  have hy := ref_v139 x3 x4 x5 b
  have hz := ref_v47 x1 x9 b d
  unfold val_main_v142 val_main_v141 val_main_v140
  generalize val_main_v139 (F := Ideal) x3 x4 x5 = y at hy
  generalize val_main_v47 (F := Ideal) x1 x9 = z at hz
  pointwise
  unfold keysOf tokK
  split
  · exact hy _ _
  · refine dite_congr (propext (by omega)) (fun _ => rfl) (fun _ => hz)

/-- Query times key, summed over the channels. -/
theorem ref_v147 (h : Fin 16) (t : Fin 2049) : val_main_v147 (F := Ideal) x0 x1 x3 x4 x5 x9 (ix3 b h t)
    = ∑ d, val_main_v0 (F := Ideal) x0 (ix3 b h d) * keysOf x1 x3 x4 x5 x9 b t d := by
  have hy := ref_v142 x1 x3 x4 x5 x9 b t
  unfold val_main_v147
  generalize val_main_v142 (F := Ideal) x1 x3 x4 x5 x9 = y at hy
  generalize val_main_v0 (F := Ideal) x0 = z
  pointwise
  simp only [hy]

/-- The query of head `h`. -/
def queryOf (h : Fin 16) : Fin 256 → EReal := fun d => val_main_v0 (F := Ideal) x0 (ix3 b h d)

/-- The scores. -/
theorem ref_v149 (h : Fin 16) (t : Fin 2049) : val_main_v149 (F := Ideal) x0 x1 x3 x4 x5 x9 (ix3 b h t)
    = score (queryOf x0 b h) (keysOf x1 x3 x4 x5 x9 b) t := by
  rw [val_main_v149_apply, val_main_v148_apply, val_main_cst_22_apply, ref_v147]
  rfl

/-- The maximum of the scores. -/
theorem ref_v151 (h : Fin 16) : val_main_v151 (F := Ideal) x0 x1 x3 x4 x5 x9 (ix3 b h 0)
    = Finset.univ.sup fun t => score (queryOf x0 b h) (keysOf x1 x3 x4 x5 x9 b) t := by
  have hy := ref_v149 x0 x1 x3 x4 x5 x9 b h
  unfold val_main_v151 val_main_v150
  generalize val_main_v149 (F := Ideal) x0 x1 x3 x4 x5 x9 = y at hy
  pointwise
  simp only [hy]
  rw [val_main_cst_23_apply, show (FloatOps.ofBits .f32 0xFF800000#32 : Ideal .f32) = (⊥ : EReal) by
    show Ideal.ofBits .f32 0xFF800000#32 = ⊥
    simp [Ideal.ofBits, Ideal.ieee]]
  rfl

/-- The maximum of the scores, with the floor. -/
theorem ref_v153 (h : Fin 16) : val_main_v153 (F := Ideal) x0 x1 x3 x4 x5 x9 (ix3 b h 0)
    = top (queryOf x0 b h) (keysOf x1 x3 x4 x5 x9 b) := by
  rw [val_main_v153_apply, val_main_v152_apply, val_main_cst_24_apply, ref_v151]
  rfl

/-- The weights. -/
theorem ref_v156 (h : Fin 16) (t : Fin 2049) : val_main_v156 (F := Ideal) x0 x1 x3 x4 x5 x9 (ix3 b h t)
    = weight (queryOf x0 b h) (keysOf x1 x3 x4 x5 x9 b) t := by
  have hm : val_main_v154 (F := Ideal) x0 x1 x3 x4 x5 x9 (ix3 b h t) = top (queryOf x0 b h) (keysOf x1 x3 x4 x5 x9 b) := by
    have hy := ref_v153 x0 x1 x3 x4 x5 x9 b h
    unfold val_main_v154
    generalize val_main_v153 (F := Ideal) x0 x1 x3 x4 x5 x9 = y at hy
    pointwise
    exact hy
  rw [val_main_v156_apply, val_main_v155_apply, ref_v149, hm]
  rfl

/-- The sum of the weights. -/
theorem ref_v161 (h : Fin 16) (d : Fin 256) : val_main_v161 (F := Ideal) x0 x1 x3 x4 x5 x9 (ix3 b h d)
    = ∑ t, weight (queryOf x0 b h) (keysOf x1 x3 x4 x5 x9 b) t := by
  have hy := ref_v156 x0 x1 x3 x4 x5 x9 b h
  unfold val_main_v161 val_main_v160 val_main_v159
  generalize val_main_v156 (F := Ideal) x0 x1 x3 x4 x5 x9 = y at hy
  pointwise
  simp only [hy]
  rw [val_main_cst_25_apply, show (FloatOps.ofBits .f32 0x00000000#32 : Ideal .f32) = (0 : EReal) from Ideal.ofBits_zero _, zero_add]

/-- All 2049 values. -/
theorem ref_v146 (t : Fin 2049) (d : Fin 256) : val_main_v146 (F := Ideal) x2 x6 x7 x8 x10 (ix3 b t d) = valuesOf x2 x6 x7 x8 x10 b t d := by
  have hy := ref_v143 x6 x7 x8 b
  have hz := ref_v145 x2 b d
  unfold val_main_v146 val_main_v144
  generalize val_main_v143 (F := Ideal) x6 x7 x8 = y at hy
  generalize val_main_v145 (F := Ideal) x2 = z at hz
  pointwise
  unfold valuesOf tokV
  split
  · exact hy _ _
  · refine dite_congr (propext (by omega)) (fun _ => rfl) (fun _ => ?_)
    refine Eq.trans (congrArg (fun k => z (ix3 b k d)) ?_) hz
    exact Subsingleton.elim (α := Fin 1) _ _

/-- The weighted sum of the values. -/
theorem ref_v158 (h : Fin 16) (d : Fin 256) : val_main_v158 (F := Ideal) x0 x1 x2 x3 x4 x5 x6 x7 x8 x9 x10 (ix3 b h d)
    = ∑ t, weight (queryOf x0 b h) (keysOf x1 x3 x4 x5 x9 b) t * valuesOf x2 x6 x7 x8 x10 b t d := by
  have hy := ref_v156 x0 x1 x3 x4 x5 x9 b h
  have hz := fun t => ref_v146 x2 x6 x7 x8 x10 b t d
  unfold val_main_v158 val_main_v157
  generalize val_main_v156 (F := Ideal) x0 x1 x3 x4 x5 x9 = y at hy
  generalize val_main_v146 (F := Ideal) x2 x6 x7 x8 x10 = z at hz
  pointwise
  simp only [hy, hz]

/-- The attention output of one head. -/
theorem ref_v162 (h : Fin 16) (d : Fin 256) : val_main_v162 (F := Ideal) x0 x1 x2 x3 x4 x5 x6 x7 x8 x9 x10 (ix3 b h d)
    = attn (queryOf x0 b h) (keysOf x1 x3 x4 x5 x9 b) (valuesOf x2 x6 x7 x8 x10 b) d := by
  rw [val_main_v162_apply, ref_v158, ref_v161]
  rfl

/-- The query of head `h` in terms of the argument. -/
theorem query_eq (h : Fin 16) : queryOf x0 b h = fun d => x0 (ix3 b 0 ⟨h.val * 256 + d.val, by omega⟩) := by
  funext d
  unfold queryOf val_main_v0
  pointwise

/-- The attention output. -/
theorem ref_v164 : val_main_v164 (F := Ideal) x0 x1 x2 x3 x4 x5 x6 x7 x8 x9 x10 = resY x0 x1 x2 x3 x4 x5 x6 x7 x8 x9 x10 := by
  have h := ref_v162 x0 x1 x2 x3 x4 x5 x6 x7 x8 x9 x10
  simp only [query_eq] at h
  unfold val_main_v164 val_main_v163
  generalize val_main_v162 (F := Ideal) x0 x1 x2 x3 x4 x5 x6 x7 x8 x9 x10 = y at h
  funext j
  idx_vars j
  pointwise
  exact h _ _ _

end Attn

end Kivi
-- ==== Proof.RunRef.lean ====
module

public import proofs.«01_k».proof.Proof.RefAttn
public import proofs.«01_k».proof.Proof.Gen.ReferenceIdeal.Run

/-! # The reference's run, with its results -/

@[expose] public section

set_option maxRecDepth 16384

noncomputable section

namespace Kivi

open Idealize.ShloMosaic Idealize.ShloMosaic.TcCoe Idealize.SL Idealize.SL.Sem
open Idealize.ShloMosaic.StableHlo
open Cert.ReferenceIdeal Cert.ReferenceIdeal.Gen Cert.ReferenceIdeal.Read

variable (m : (ℓ : Loc nD τ sig) → Buf (Elt Ideal) ℓ) (ρ : Dev nD → PrngReg)

/-- The reference's run from any memory with zero counters: it ends, with the seven results as the same functions of the
    arguments, and the arguments unchanged. -/
theorem run_ref : θ_run defs (onTc (τ := τ) (main (F := Ideal))) ⟨m, fun _ => 0, ρ⟩ (fun r => ∀ c : Dev nD,
      r.2.mem ((c.tc : Thread nD τ).loc main_v164) = resY (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_v165) = resKCodes (m ((c.tc : Thread nD τ).loc main_arg1)) (m ((c.tc : Thread nD τ).loc main_arg9))
      ∧ r.2.mem ((c.tc : Thread nD τ).loc main_v166) = resKScale (m ((c.tc : Thread nD τ).loc main_arg1)) (m ((c.tc : Thread nD τ).loc main_arg9))
      ∧ r.2.mem ((c.tc : Thread nD τ).loc main_v167) = resKZero (m ((c.tc : Thread nD τ).loc main_arg1)) (m ((c.tc : Thread nD τ).loc main_arg9))
      ∧ r.2.mem ((c.tc : Thread nD τ).loc main_v168) = resVCodes (m ((c.tc : Thread nD τ).loc main_arg2))
      ∧ r.2.mem ((c.tc : Thread nD τ).loc main_v169) = resVScale (m ((c.tc : Thread nD τ).loc main_arg2))
      ∧ r.2.mem ((c.tc : Thread nD τ).loc main_v170) = resVZero (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => by
      obtain ⟨h0, h1, h2, h3, h4, h5, h6, hargs⟩ := h c
      have g0 := (h0.trans (val_main_v164_eq (launchContents m c))).trans (ref_v164 _ _ _ _ _ _ _ _ _ _ _)
      have g1 := (h1.trans (val_main_v165_eq (launchContents m c))).trans (ref_v165 _ _)
      have g2 := (h2.trans (val_main_v166_eq (launchContents m c))).trans (ref_v166 _ _)
      have g3 := (h3.trans (val_main_v167_eq (launchContents m c))).trans (ref_v167 _ _)
      have g4 := (h4.trans (val_main_v168_eq (launchContents m c))).trans (ref_v168 _)
      have g5 := (h5.trans (val_main_v169_eq (launchContents m c))).trans (ref_v169 _)
      have g6 := (h6.trans (val_main_v170_eq (launchContents m c))).trans (ref_v170 _)
      exact ⟨g0, g1, g2, g3, g4, g5, g6, hargs⟩)
    (Cert.ReferenceIdeal.Value.run (F := Ideal) m ρ)

end Kivi
-- ==== Proof.Same.lean ====
module

public import proofs.«01_k».proof.Proof.Run
public import proofs.«01_k».proof.Proof.RunRef
public import proofs.«01_k».proof.Defs

/-! # The two programs compute the same results -/

@[expose] public section

set_option maxRecDepth 16384

noncomputable section

namespace Kivi

open Idealize.ShloMosaic Idealize.ShloMosaic.TcCoe Idealize.SL Idealize.SL.Sem Cert.KernelIdeal

/-- `resY` of equal arguments. -/
theorem resY_congr {x0 x0' : Vec Ideal S128x1x4096 .bf16} {x1 x1' : Vec Ideal S128x1x1x256 .bf16} {x2 x2' : Vec Ideal S128x1x1x256 .bf16} {x3 x3' : Vec Ideal S128x1920x1x128 .i8} {x4 x4' : Vec Ideal S128x60x1x256 .f32} {x5 x5' : Vec Ideal S128x60x1x256 .f32} {x6 x6' : Vec Ideal S128x1920x1x128 .i8} {x7 x7' : Vec Ideal S128x1920x1x8 .f32} {x8 x8' : Vec Ideal S128x1920x1x8 .f32} {x9 x9' : Vec Ideal S128x128x1x256 .bf16} {x10 x10' : Vec Ideal S128x128x1x256 .bf16}
    (h0 : x0' = x0) (h1 : x1' = x1) (h2 : x2' = x2) (h3 : x3' = x3) (h4 : x4' = x4) (h5 : x5' = x5) (h6 : x6' = x6) (h7 : x7' = x7) (h8 : x8' = x8) (h9 : x9' = x9) (h10 : x10' = x10) :
    resY x0' x1' x2' x3' x4' x5' x6' x7' x8' x9' x10' = resY x0 x1 x2 x3 x4 x5 x6 x7 x8 x9 x10 := by
  subst h0 h1 h2 h3 h4 h5 h6 h7 h8 h9 h10; rfl

/-- `resKCodes` of equal arguments. -/
theorem resKCodes_congr {x1 x1' : Vec Ideal S128x1x1x256 .bf16} {x9 x9' : Vec Ideal S128x128x1x256 .bf16}
    (h1 : x1' = x1) (h9 : x9' = x9) :
    resKCodes x1' x9' = resKCodes x1 x9 := by
  subst h1 h9; rfl

/-- `resKScale` of equal arguments. -/
theorem resKScale_congr {x1 x1' : Vec Ideal S128x1x1x256 .bf16} {x9 x9' : Vec Ideal S128x128x1x256 .bf16}
    (h1 : x1' = x1) (h9 : x9' = x9) :
    resKScale x1' x9' = resKScale x1 x9 := by
  subst h1 h9; rfl

/-- `resKZero` of equal arguments. -/
theorem resKZero_congr {x1 x1' : Vec Ideal S128x1x1x256 .bf16} {x9 x9' : Vec Ideal S128x128x1x256 .bf16}
    (h1 : x1' = x1) (h9 : x9' = x9) :
    resKZero x1' x9' = resKZero x1 x9 := by
  subst h1 h9; rfl

/-- `resVCodes` of equal arguments. -/
theorem resVCodes_congr {x2 x2' : Vec Ideal S128x1x1x256 .bf16}
    (h2 : x2' = x2) :
    resVCodes x2' = resVCodes x2 := by
  subst h2; rfl

/-- `resVScale` of equal arguments. -/
theorem resVScale_congr {x2 x2' : Vec Ideal S128x1x1x256 .bf16}
    (h2 : x2' = x2) :
    resVScale x2' = resVScale x2 := by
  subst h2; rfl

/-- `resVZero` of equal arguments. -/
theorem resVZero_congr {x2 x2' : Vec Ideal S128x1x1x256 .bf16}
    (h2 : x2' = x2) :
    resVZero x2' = resVZero x2 := by
  subst h2; rfl

/-- From memories that agree on the arguments, the kernel and the reference end with equal results, and leave the arguments
    as they were. -/
theorem algebraic : Cert.algebraic_KernelIdeal_ReferenceIdeal := fun m ρ m' ρ' _ hagree =>
  ⟨fun c => resY (A0 m c) (A1 m c) (A2 m c) (A3 m c) (A4 m c) (A5 m c) (A6 m c) (A7 m c) (A8 m c) (A9 m c) (A10 m c),
      fun c => resKCodes (A1 m c) (A9 m c),
      fun c => resKScale (A1 m c) (A9 m c),
      fun c => resKZero (A1 m c) (A9 m c),
      fun c => resVCodes (A2 m c),
      fun c => resVScale (A2 m c),
      fun c => resVZero (A2 m c),
    run m ρ,
    (θ_run Cert.ReferenceIdeal.defs _ _).mono (fun r h c => by
        obtain ⟨e0, e1, e2, e3, e4, e5, e6, e7, e8, e9, e10⟩ := hagree c
        obtain ⟨h0, h1, h2, h3, h4, h5, h6, hargs⟩ := h c
        exact ⟨h0.trans (resY_congr e0 e1 e2 e3 e4 e5 e6 e7 e8 e9 e10),
          h1.trans (resKCodes_congr e1 e9),
          h2.trans (resKScale_congr e1 e9),
          h3.trans (resKZero_congr e1 e9),
          h4.trans (resVCodes_congr e2),
          h5.trans (resVScale_congr e2),
          h6.trans (resVZero_congr e2), hargs⟩)
      (run_ref m' ρ')⟩

end Kivi
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Same
public import Idealize.ShloMosaic.Adequacy
public import Idealize.ShloMosaic.Init

@[expose] public section

noncomputable section

namespace Cert.Proof

open Idealize.ShloMosaic Idealize.SL.Sem Cert.Kernel

/-- The reference over the reals runs, leaves its arguments alone, and declares no semaphore. -/
theorem frame_reference : Cert.quiescent_ReferenceIdeal := fun m ρ _ =>
  (θ_run Cert.ReferenceIdeal.defs _ _).mono (fun r h => ⟨fun c => (h c).2.2.2.2.2.2.2,
      Idealize.ShloMosaic.sem_eq_zero_of_no_sems (by decide) r.2⟩)
    (Cert.ReferenceIdeal.Value.run (F := Ideal) m ρ)

/-- Everything the certificate claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial,
    Kivi.algebraic⟩

end Cert.Proof

end
